-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S2x8x256x512 : Shape := ⟨4, ![2, 8, 256, 512]⟩
abbrev S2x7 : Shape := ⟨2, ![2, 7]⟩
abbrev S_ : Shape := ⟨0, ![]⟩
abbrev S256x256 : Shape := ⟨2, ![256, 256]⟩
abbrev S256x512 : Shape := ⟨2, ![256, 512]⟩
abbrev S1x1x256x512 : Shape := ⟨4, ![1, 1, 256, 512]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S256x2048, .f32⟩
  | .local _ .vmem, ⟨0, _⟩ => ⟨S2048x256, .bf16⟩
  | .local _ .vmem, ⟨1, _⟩ => ⟨S256x2048, .bf16⟩
  | .local _ .vmem, ⟨2, _⟩ => ⟨S256x2048, .f32⟩
  | .local _ .vmem, ⟨3, _⟩ => ⟨S2x8x256x512, .bf16⟩
  | .local _ .vmem, ⟨4, _⟩ => ⟨S2x8x256x512, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_8 : BitVec 32 := 1#32
  let v17 : BitVec 32 := Scalar.muli v10 c1_i32_8
  let v18 : BitVec 32 := Scalar.addi c0_i32 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_10 : BitVec 32 := 1#32
  let v19 : BitVec 32 := Scalar.muli v15 c1_i32_10
  let v20 : BitVec 32 := Scalar.addi c0_i32_11 v19
  v20.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c256_i32 : BitVec 32 := 256#32
  let v21 : BitVec 32 := Scalar.muli v10 c256_i32
  let v22 : Index := Scalar.indexCast v21
  let c0 : Index := 0#32
  ![v22.toNat, 0]
def k0_off1_at (r : Fin 9) : BitVec 32 :=
  if r.val < 4 then
    if r.val < 2 then
      if r.val < 1 then
        7#32
      else
        1#32
    else
      if r.val < 3 then
        14#32
      else
        13#32
  else
    if r.val < 6 then
      if r.val < 5 then
        12#32
      else
        11#32
    else
      if r.val < 7 then
        10#32
      else
        if r.val < 8 then
          9#32
        else
          8#32
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_26 : BitVec 32 := 1#32
  let v32 : BitVec 32 := Scalar.muli v15 c1_i32_26
  let v33 : BitVec 32 := Scalar.addi c0_i32_27 v32
  v33.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_48 : BitVec 32 := 1#32
  let v53 : BitVec 32 := Scalar.muli v10 c1_i32_48
  let v54 : BitVec 32 := Scalar.addi c0_i32_49 v53
  v54.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_69 : BitVec 32 := 1#32
  let v74 : BitVec 32 := Scalar.muli v15 c1_i32_69
  let v75 : BitVec 32 := Scalar.addi c0_i32_70 v74
  v75.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_91 : BitVec 32 := 1#32
  let v95 : BitVec 32 := Scalar.muli v10 c1_i32_91
  let v96 : BitVec 32 := Scalar.addi c0_i32_92 v95
  v96.toNat
def k0_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_135 : BitVec 32 := 1#32
  let v133 : BitVec 32 := Scalar.muli v15 c1_i32_135
  let v134 : BitVec 32 := Scalar.addi c0_i32_136 v133
  v134.toNat
def k0_off2 (d0 : Dev nD) (c0_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_141 : BitVec 32 := 2#32
  let v143 : BitVec 32 := Scalar.addi v5 c2_i32_141
  let v144 : BitVec 32 := Scalar.addi v143 c0_i32_142
  let c8_i32_143 : BitVec 32 := 8#32
  let v145 : BitVec 32 := Scalar.remsi v144 c8_i32_143
  let c4_i32_144 : BitVec 32 := 4#32
  let v146 : BitVec 1 := Scalar.cmpi .slt v145 c4_i32_144
  let c11_i32_145 : BitVec 32 := 11#32
  let v147 : BitVec 32 := Scalar.subi c11_i32_145 v145
  let v148 : BitVec 32 := Scalar.select v146 v145 v147
  let c256_i32_146 : BitVec 32 := 256#32
  let v149 : BitVec 32 := Scalar.muli v148 c256_i32_146
  let v150 : Index := Scalar.indexCast v149
  let c0_147 : Index := 0#32
  ![v150.toNat, 0]
def k0_dev8 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_181 : BitVec 32 := 1#32
  let v172 : BitVec 32 := Scalar.muli v10 c1_i32_181
  let v173 : BitVec 32 := Scalar.addi c0_i32_182 v172
  v173.toNat
def k0_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_226 : BitVec 32 := 1#32
  let v210 : BitVec 32 := Scalar.muli v15 c1_i32_226
  let v211 : BitVec 32 := Scalar.addi c0_i32_227 v210
  v211.toNat
def k0_dev10 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_272 : BitVec 32 := 1#32
  let v249 : BitVec 32 := Scalar.muli v10 c1_i32_272
  let v250 : BitVec 32 := Scalar.addi c0_i32_273 v249
  v250.toNat
def k0_dev11 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_314 : BitVec 32 := 1#32
  let v287 : BitVec 32 := Scalar.muli v15 c1_i32_314
  let v288 : BitVec 32 := Scalar.addi c0_i32_315 v287
  v288.toNat
def k0_dev12 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_360 : BitVec 32 := 1#32
  let v326 : BitVec 32 := Scalar.muli v10 c1_i32_360
  let v327 : BitVec 32 := Scalar.addi c0_i32_361 v326
  v327.toNat
def k0_dev13 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_405 : BitVec 32 := 1#32
  let v364 : BitVec 32 := Scalar.muli v15 c1_i32_405
  let v365 : BitVec 32 := Scalar.addi c0_i32_406 v364
  v365.toNat
def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_451 : BitVec 32 := 1#32
  let v403 : BitVec 32 := Scalar.muli v10 c1_i32_451
  let v404 : BitVec 32 := Scalar.addi c0_i32_452 v403
  v404.toNat
def k0_dev15 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_494 : BitVec 32 := 1#32
  let v441 : BitVec 32 := Scalar.muli v15 c1_i32_494
  let v442 : BitVec 32 := Scalar.addi c0_i32_495 v441
  v442.toNat
def k0_dev16 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_540 : BitVec 32 := 1#32
  let v480 : BitVec 32 := Scalar.muli v10 c1_i32_540
  let v481 : BitVec 32 := Scalar.addi c0_i32_541 v480
  v481.toNat
def k0_dev17 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_585 : BitVec 32 := 1#32
  let v518 : BitVec 32 := Scalar.muli v15 c1_i32_585
  let v519 : BitVec 32 := Scalar.addi c0_i32_586 v518
  v519.toNat
def k0_dev18 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_631 : BitVec 32 := 1#32
  let v557 : BitVec 32 := Scalar.muli v10 c1_i32_631
  let v558 : BitVec 32 := Scalar.addi c0_i32_632 v557
  v558.toNat
def k0_dev19 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_674 : BitVec 32 := 1#32
  let v595 : BitVec 32 := Scalar.muli v15 c1_i32_674
  let v596 : BitVec 32 := Scalar.addi c0_i32_675 v595
  v596.toNat
def k0_dev20 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_720 : BitVec 32 := 1#32
  let v634 : BitVec 32 := Scalar.muli v10 c1_i32_720
  let v635 : BitVec 32 := Scalar.addi c0_i32_721 v634
  v635.toNat
def k0_dev21 (d0 : Dev nD) : Nat :=
  let c0_i32_766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_765 : BitVec 32 := 1#32
  let v672 : BitVec 32 := Scalar.muli v15 c1_i32_765
  let v673 : BitVec 32 := Scalar.addi c0_i32_766 v672
  v673.toNat
def k0_dev22 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_811 : BitVec 32 := 1#32
  let v711 : BitVec 32 := Scalar.muli v10 c1_i32_811
  let v712 : BitVec 32 := Scalar.addi c0_i32_812 v711
  v712.toNat
def k0_dev23 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_853 : BitVec 32 := 1#32
  let v749 : BitVec 32 := Scalar.muli v15 c1_i32_853
  let v750 : BitVec 32 := Scalar.addi c0_i32_854 v749
  v750.toNat
def k0_dev24 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_899 : BitVec 32 := 1#32
  let v788 : BitVec 32 := Scalar.muli v10 c1_i32_899
  let v789 : BitVec 32 := Scalar.addi c0_i32_900 v788
  v789.toNat
def k0_dev25 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_944 : BitVec 32 := 1#32
  let v826 : BitVec 32 := Scalar.muli v15 c1_i32_944
  let v827 : BitVec 32 := Scalar.addi c0_i32_945 v826
  v827.toNat
def k0_dev26 (d0 : Dev nD) : Nat :=
  let c0_i32_991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_990 : BitVec 32 := 1#32
  let v865 : BitVec 32 := Scalar.muli v10 c1_i32_990
  let v866 : BitVec 32 := Scalar.addi c0_i32_991 v865
  v866.toNat
def k0_dev27 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1033 : BitVec 32 := 1#32
  let v903 : BitVec 32 := Scalar.muli v15 c1_i32_1033
  let v904 : BitVec 32 := Scalar.addi c0_i32_1034 v903
  v904.toNat
def k0_dev28 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_1079 : BitVec 32 := 1#32
  let v942 : BitVec 32 := Scalar.muli v10 c1_i32_1079
  let v943 : BitVec 32 := Scalar.addi c0_i32_1080 v942
  v943.toNat
def k0_dev29 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3 : BitVec 32 := 1#32
  let v11 : BitVec 32 := Scalar.addi v5 c1_i32_3
  let c8_i32_4 : BitVec 32 := 8#32
  let v12 : BitVec 32 := Scalar.remsi v11 c8_i32_4
  let c4_i32_5 : BitVec 32 := 4#32
  let v13 : BitVec 1 := Scalar.cmpi .slt v12 c4_i32_5
  let c11_i32_6 : BitVec 32 := 11#32
  let v14 : BitVec 32 := Scalar.subi c11_i32_6 v12
  let v15 : BitVec 32 := Scalar.select v13 v12 v14
  let c1_i32_1124 : BitVec 32 := 1#32
  let v980 : BitVec 32 := Scalar.muli v15 c1_i32_1124
  let v981 : BitVec 32 := Scalar.addi c0_i32_1125 v980
  v981.toNat
def k0_dev30 (d0 : Dev nD) : Nat :=
  let c0_i32_1171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c7_i32 : BitVec 32 := 7#32
  let v6 : BitVec 32 := Scalar.addi v5 c7_i32
  let c8_i32_0 : BitVec 32 := 8#32
  let v7 : BitVec 32 := Scalar.remsi v6 c8_i32_0
  let c4_i32_1 : BitVec 32 := 4#32
  let v8 : BitVec 1 := Scalar.cmpi .slt v7 c4_i32_1
  let c11_i32_2 : BitVec 32 := 11#32
  let v9 : BitVec 32 := Scalar.subi c11_i32_2 v7
  let v10 : BitVec 32 := Scalar.select v8 v7 v9
  let c1_i32_1170 : BitVec 32 := 1#32
  let v1019 : BitVec 32 := Scalar.muli v10 c1_i32_1170
  let v1020 : BitVec 32 := Scalar.addi c0_i32_1171 v1019
  v1020.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Model.lean ====
/-
# The kernel as a schedule of ring steps

The kernel's body is one long straight line: eight devices in a ring, two directions, two stripes
of columns per direction, seven hops. This module writes the same program with its structure
visible: one definition per kind of step, indexed by direction, stripe and hop, and a list for the
order. `body_eq` says that the printed body is that program.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Ring

open Cert.KernelIdeal Cert.KernelIdeal.Gen
open Idealize.ShloMosaic Idealize.ShloMosaic.TcCoe
open Idealize.SL.Sem

variable {F : FTy → Type} [FloatOps F]

/-! ## The ring -/

/-- The place of device `q` on the ring, and the device at place `q`: the first four devices in
order, then the other four backwards. Its own inverse. -/
def place (q : Fin 8) : Fin 8 := if q.val < 4 then q else 11 - q

/-- The device `k` places further along the ring than `c`. -/
def shift (k : Fin 8) (c : Dev nD) : Dev nD := place (place c + k)

/-- The neighbour to which direction `b` carries data: one place on for `true` (clockwise), one
place back for `false` (counterclockwise). -/
def nxt (b : Bool) (c : Dev nD) : Dev nD := shift (cond b 1 7) c

/-- The neighbour whose data arrive in direction `b`. -/
def src (b : Bool) (c : Dev nD) : Dev nD := nxt (!b) c

theorem nxt_src (b : Bool) (c : Dev nD) : nxt b (src b c) = c := by revert b c; decide
theorem src_nxt (b : Bool) (c : Dev nD) : src b (nxt b c) = c := by revert b c; decide
theorem nxt_ne (b : Bool) (c : Dev nD) : nxt b c ≠ c := by revert b c; decide
theorem nxt_ne_not (b : Bool) (c : Dev nD) : nxt b c ≠ nxt (!b) c := by revert b c; decide

/-- The row block, one per device, that device `c` contributes to at step `j` of direction `b`.
Step `0` starts a sum, which arrives at its owner after seven hops. -/
def block (c : Dev nD) (b : Bool) (j : Fin 8) : Dev nD := shift (cond b (7 - j) (1 + j)) c

/-! ## The steps' operands -/

/-- One copy between neighbours: hop, stripe, direction. -/
abbrev Hop : Type := Fin 7 × Fin 2 × Bool

abbrev xM : Memref sig .tc .vmem S2048x256 .bf16 := Memref.whole cc0_stg0_0
abbrev wM : Memref sig .tc .vmem S256x2048 .bf16 := Memref.whole cc0_stg1_0
abbrev oM : Memref sig .tc .vmem S256x2048 .f32 := Memref.whole cc0_stg2_0

/-- The communication buffer of a direction, eight slots for each stripe. -/
abbrev comm (b : Bool) : Memref sig .tc .vmem S2x8x256x512 .bf16 :=
  match b with | true => Memref.whole cc0_scratch0 | false => Memref.whole cc0_scratch1

theorem comm_whole (b : Bool) : (comm b).IsWhole := by cases b <;> exact Memref.isWhole_whole _

theorem slot_inb : ∀ (s : Fin 2) (k : Fin 8) (a : Fin 4),
    (![s.val, k.val, 0, 0] : Fin 4 → Nat) a + S1x1x256x512.size a ≤ S2x8x256x512.size a := by decide

/-- Slot `k` of stripe `s`. -/
abbrev slotR (s : Fin 2) (k : Fin 8) : Rect S2x8x256x512 :=
  Rect.unit (s := S2x8x256x512) ![s.val, k.val, 0, 0] S1x1x256x512.size (slot_inb s k)

theorem slot_words : ∀ (s : Fin 2) (k : Fin 8), (slotR s k).WholeWords (EltTy.packing .bf16) := by decide
theorem slot_rows : ∀ (s : Fin 2) (k : Fin 8), (slotR s k).PackedRows (EltTy.packing .bf16) := by decide

/-- Slot `k` of stripe `s` in direction `b`, as a two-dimensional array: what copies name. -/
abbrev slotM (b : Bool) (s : Fin 2) (k : Fin 8) : Memref sig .tc .vmem S256x512 .bf16 :=
  ((comm b).slice (slotR s k) (fun _ => rfl)).squeeze S256x512 squeezes_S1x1x256x512_S256x512

theorem slot_exact (b : Bool) (s : Fin 2) (k : Fin 8) : (slotM b s k).view.WordExact :=
  ((comm_whole b).wordExact_slice rfl _ (slot_words s k)).reshape _ _

theorem sem_inb : ∀ (s : Fin 2) (h : Fin 7) (a : Fin 2),
    (![s.val, h.val] : Fin 2 → Nat) a + S1x1.size a ≤ S2x7.size a := by decide

/-- The semaphores of a direction's copies: the sender's and the receiver's. -/
abbrev sendA (b : Bool) : DmaSems sig S2x7 := match b with | true => cc0_scratch2 | false => cc0_scratch4
abbrev recvA (b : Bool) : DmaSems sig S2x7 := match b with | true => cc0_scratch3 | false => cc0_scratch5

abbrev semAt (a : DmaSems sig S2x7) (s : Fin 2) (h : Fin 7) : DmaSem sig :=
  ((a.slice (Rect.unit (s := S2x7) ![s.val, h.val] S1x1.size (sem_inb s h))).squeeze S_ squeezes_S1x1_S_).sem

abbrev sendS (i : Hop) : DmaSem sig := semAt (sendA i.2.2) i.2.1 i.1
abbrev recvS (i : Hop) : DmaSem sig := semAt (recvA i.2.2) i.2.1 i.1

/-- The barrier semaphore on which neighbours announce that their slots may be written. -/
abbrev barS : Sem sig := (SemArray.scalar (sig.barrier 0 rfl) : Sems sig S_).sem

/-- The first column of a stripe: the clockwise half of the columns comes first. -/
abbrev colOf (b : Bool) (s : Fin 2) : Nat := cond b (512 * s.val) (1024 + 512 * s.val)

theorem col_inb : ∀ (b : Bool) (s : Fin 2) (a : Fin 2),
    (![0, colOf b s] : Fin 2 → Nat) a + S256x512.size a ≤ S256x2048.size a := by decide

abbrev colR (b : Bool) (s : Fin 2) : Rect S256x2048 :=
  Rect.unit (s := S256x2048) ![0, colOf b s] S256x512.size (col_inb b s)

/-- Where the rows of step `j` begin, in the program's own words. -/
def rowOff (c : Dev nD) (b : Bool) (j : Fin 8) : Fin 2 → Nat :=
  match b, j with
  | true, ⟨0, _⟩ => k0_off1 c 7#32
  | true, ⟨k + 1, _⟩ => k0_off1 c (BitVec.ofNat 32 (14 - k))
  | false, ⟨0, _⟩ => k0_off1 c 1#32
  | false, ⟨k + 1, _⟩ => k0_off2 c (BitVec.ofNat 32 k)

/-- They begin at row `256 q` for the step's block `q`. -/
theorem rowOff_eq : ∀ (c : Dev nD) (b : Bool) (j : Fin 8), rowOff c b j = ![256 * (block c b j).val, 0] := by
  decide +kernel

theorem row_inb (c : Dev nD) (b : Bool) (j : Fin 8) (a : Fin 2) :
    rowOff c b j a + S256x256.size a ≤ S2048x256.size a := by
  rw [rowOff_eq]; revert a; generalize block c b j = q; revert q; decide

abbrev rowR (c : Dev nD) (b : Bool) (j : Fin 8) : Rect S2048x256 :=
  Rect.unit (s := S2048x256) (rowOff c b j) S256x256.size (row_inb c b j)

/-! ## The values -/

/-- A block of rows of the left matrix times a stripe of columns of the right one. -/
def prod (x : Vec F S256x256 .bf16) (w : Vec F S256x512 .bf16) : FVec F S256x512 .f32 :=
  matmul dot_S256x256_S256x512_S256x512_1_0_0_1_n_n none
    (shapeCast S256x256 x shapeCasts_S256x256_S256x256) (shapeCast S256x512 w shapeCasts_S256x512_S256x512)
    (constant S256x512 .f32 0x00000000#32)

/-- What a sum starts with. -/
def first (x : Vec F S256x256 .bf16) (w : Vec F S256x512 .bf16) : FVec F S1x1x256x512 .bf16 :=
  shapeCast S1x1x256x512 (truncf .bf16 (prod x w) bitsLt_bf16_f32) shapeCasts_S256x512_S1x1x256x512

/-- A received sum plus this device's term, in single precision. -/
def plus (x : Vec F S256x256 .bf16) (w : Vec F S256x512 .bf16) (v : Vec F S1x1x256x512 .bf16) : FVec F S256x512 .f32 :=
  addf (extf .f32 (shapeCast S256x512 v shapeCasts_S1x1x256x512_S256x512 : FVec F S256x512 .bf16) bitsLt_bf16_f32) (prod x w)

/-- What is passed on after a hop. -/
def next (x : Vec F S256x256 .bf16) (w : Vec F S256x512 .bf16) (v : Vec F S1x1x256x512 .bf16) : FVec F S1x1x256x512 .bf16 :=
  shapeCast S1x1x256x512 (truncf .bf16 (plus x w v) bitsLt_bf16_f32) shapeCasts_S256x512_S1x1x256x512

/-- What the owner of the rows writes out. -/
def final (x : Vec F S256x256 .bf16) (w : Vec F S256x512 .bf16) (v : Vec F S1x1x256x512 .bf16) : FVec F S256x512 .f32 :=
  maximumf (plus x w v) (broadcast S256x512 (Scalar.ofBits .f32 0x00000000#32))

/-! ## The steps -/

/-- The neighbour in direction `b`, as the program computes it. -/
def tgt (b : Bool) (c : Dev nD) : Dev nD :=
  match b with | true => ⟨k0_dev2 c, k0_dev2_lt c⟩ | false => ⟨k0_dev1 c, k0_dev1_lt c⟩

theorem tgt_eq : ∀ (b : Bool) (c : Dev nD), tgt b c = nxt b c := by decide +kernel

/-- Programs of one core. Each step below takes what follows it as its last argument. -/
abbrev P (F : FTy → Type) : Type 1 := Prog (TpuEff nD τ sig (Elt F) Λ₀ .tc) PUnit

/-- Send slot `h` to the neighbour's slot `h + 1`. -/
def copy (c : Dev nD) (i : Hop) (k : P F) : P F :=
  .op (.enqueueDma (slotM i.2.2 i.2.1 i.1.castSucc)
    (.remote (Dev.tc (tgt i.2.2 c)) (slotM i.2.2 i.2.1 i.1.succ) (.dma (sendS i))) (.dma (recvS i))
    (slot_exact _ _ _) (slot_exact _ _ _) ⟨⟨rfl, Or.inl rfl⟩, trivial⟩) fun _ => k

/-- Load the rows of step `j` and the stripe's columns. -/
def operands (c : Dev nD) (b : Bool) (s : Fin 2) (j : Fin 8) (k : Vec F S256x256 .bf16 → Vec F S256x512 .bf16 → P F) : P F :=
  .op (.load xM (rowR c b j).toLoadRect (View.loadsAt_vmem h_S256x256)) fun x =>
  .op (.load wM (colR b s).toLoadRect (View.loadsAt_vmem h_S256x512)) fun w => k x w

/-- Store into slot `j` (the program loads it first, and drops what it loaded). -/
def put (b : Bool) (s : Fin 2) (j : Fin 8) (v : FVec F S1x1x256x512 .bf16) (k : P F) : P F :=
  .op (.load (comm b) (slotR s j).toLoadRect (View.loadsAt_vmem h_S1x1x256x512)) fun _ =>
  .op (.store (comm b) (slotR s j) v Finset.univ
    (View.stores_vmem h_S1x1x256x512 ((comm_whole b).storeExact_slice rfl _ (slot_rows s j)) (fun _ => rfl)) (.inl rfl)) fun _ => k

/-- Start the sum of one stripe in one direction. -/
def start (c : Dev nD) (q : Fin 2 × Bool) (k : P F) : P F :=
  operands c q.2 q.1 0 fun x w => put q.2 q.1 0 (first x w) (copy c (0, q) k)

/-- Wait for the copy of hop `i` to arrive and load what arrived. -/
def arrive (i : Hop) (k : Vec F S1x1x256x512 .bf16 → P F) : P F :=
  .op (.waitDma2 (recvS i) (slotM i.2.2 i.2.1 i.1.castSucc) (slotM i.2.2 i.2.1 i.1.succ) (slot_exact _ _ _) (slot_exact _ _ _)) fun _ =>
  .op (.load (comm i.2.2) (slotR i.2.1 i.1.succ).toLoadRect (View.loadsAt_vmem h_S1x1x256x512)) fun v => k v

/-- A hop that passes the sum on. -/
def hop (c : Dev nD) (i : Fin 6 × Fin 2 × Bool) (k : P F) : P F :=
  operands c i.2.2 i.2.1 i.1.castSucc.succ fun x w =>
    arrive (i.1.castSucc, i.2) fun v =>
      put i.2.2 i.2.1 i.1.succ.castSucc (next x w v) (copy c (i.1.succ, i.2) k)

/-- The last hop: the finished stripe goes to the output. -/
def finish (c : Dev nD) (q : Fin 2 × Bool) (k : P F) : P F :=
  operands c q.2 q.1 7 fun x w =>
    arrive (6, q) fun v =>
      .op (.load oM (colR q.2 q.1).toLoadRect (View.loadsAt_vmem h_S256x512)) fun _ =>
      .op (.store oM (colR q.2 q.1) (final x w v) Finset.univ (View.stores_vmem_bits_univ h_S256x512 rfl) (.inl rfl)) fun _ => k

/-- Wait until slot `h` has been read by its copy. -/
def sent (i : Hop) (k : P F) : P F :=
  .op (.waitDma2 (sendS i) (slotM i.2.2 i.2.1 i.1.succ) (slotM i.2.2 i.2.1 i.1.castSucc) (slot_exact _ _ _) (slot_exact _ _ _)) fun _ => k

/-- Run a step for each element of a list, in order. -/
def each {ι : Type} (f : ι → P F → P F) : List ι → P F → P F
  | [], k => k
  | i :: l, k => f i (each f l k)

/-- The order of stripes and directions within a hop. -/
def chains : List (Fin 2 × Bool) := [(0, true), (0, false), (1, true), (1, false)]

def hops : List (Fin 6 × Fin 2 × Bool) := [0, 1, 2, 3, 4, 5].flatMap fun h => chains.map fun q => (h, q)
def copies : List Hop := [0, 1, 2, 3, 4, 5, 6].flatMap fun h => chains.map fun q => (h, q)

/-- Tell both neighbours that this device's slots may be written, and wait for both to say so. -/
def handshake (c : Dev nD) (k : P F) : P F :=
  .op (.semSignal (tgt false c : Thread nD τ) barS (1 : Nat)) fun _ =>
  .op (.semSignal (tgt true c : Thread nD τ) barS (1 : Nat)) fun _ =>
  .op (.semWait barS (2 : Nat)) fun _ => k

/-- The whole body on device `c`. -/
def body (c : Dev nD) : P F :=
  handshake c (each (start c) chains (each (hop c) hops (each (finish c) chains (each sent copies (.ret ⟨⟩)))))

set_option maxRecDepth 65536 in
/-- The printed body is this program. -/
theorem body_eq :
    cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5
    = Prog.op .deviceId (fun c => body c) := by
  rw [cc0_body_eq_skeleton]
  exact rfl

end Cert.KernelIdeal.Ring

end
-- ==== Proof.KernelIdeal.Protocol.lean ====
/-
# The protocol

Who may touch what, and when. Every device has one barrier semaphore cell and, for each of the
twenty-eight copies of the schedule, one cell for the sender and one for the receiver.

* A signal to a neighbour's barrier hands over the slots which that neighbour will write here.
* A copy hands the receiver the written slot with its value, and gives the sender its own slot back.

The values that travel are defined here too: what device `c` sends at each hop.
-/
module

public import proofs.«01_k».proof.Proof.KernelIdeal.Model
public import Idealize.ShloMosaic.Lib.Pipeline.Launch
public import Idealize.ShloMosaic.Lib.Pipeline.Kit
public import Idealize.ShloMosaic.Lib.Pipeline.BigSepL
public import Idealize.ShloMosaic.Lib.ViewIndex
public import Idealize.ShloMosaic.Lib.Ring
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties of a barrier cell are named by the direction of the slots they hand over; a copy's cell
has the one duty `false`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Slots -/

/-- Slot `k` of stripe `s` in direction `b`, as the loads and stores name it. -/
abbrev slotV (b : Bool) (s : Fin 2) (k : Fin 8) := (comm b).access (slotR s k)

/-- A slot on device `c` held at contents `f`. -/
def slotPts (c : Dev nD) (b : Bool) (s : Fin 2) (k : Fin 8) (f : Buf (Elt F) ((comm b).view.loc (c : Thread nD τ))) : sProp 𝕄 :=
  (comm b).view.loc (c : Thread nD τ) ↦[(slotV b s k).set]{fullShare} f

/-- A slot held at any contents; -/
def slotAny (c : Dev nD) (b : Bool) (s : Fin 2) (k : Fin 8) : sProp 𝕄 := iprop(∃ f, slotPts (F := F) c b s k f)

/-- and at contents that read as `v`. -/
def slotAt (c : Dev nD) (b : Bool) (s : Fin 2) (k : Fin 8) (v : Vec F S1x1x256x512 .bf16) : sProp 𝕄 :=
  iprop(∃ f, ⌜(slotV b s k).read (Elt F) f = v⌝ ∗ slotPts (F := F) c b s k f)

omit [FloatOps F] in
instance slotPts_storable (c : Dev nD) (b s k f) : BI.Storable (upEmb : UEmb _ 𝕄) (slotPts (F := F) c b s k f) := by
  unfold slotPts; infer_instance
omit [FloatOps F] in
instance slotAny_storable (c : Dev nD) (b s k) : BI.Storable (upEmb : UEmb _ 𝕄) (slotAny (F := F) c b s k) := by
  unfold slotAny; infer_instance
omit [FloatOps F] in
instance slotAt_storable (c : Dev nD) (b s k v) : BI.Storable (upEmb : UEmb _ 𝕄) (slotAt (F := F) c b s k v) := by
  unfold slotAt; infer_instance

omit [FloatOps F] in
theorem slotAt_any (c : Dev nD) (b s k) (v : Vec F S1x1x256x512 .bf16) : slotAt c b s k v ⊢ (slotAny (F := F) c b s k : sProp 𝕄) := by
  unfold slotAt slotAny
  iintro ⟨%f, -, H⟩; iexists f; iexact H

/-- The copies' own view of a slot has the same elements. -/
theorem slotM_set (b : Bool) (s : Fin 2) (k : Fin 8) : (slotM b s k).view.set = (slotV b s k).set := View.set_reshape _ _

omit [FloatOps F] in
/-- What a copy leaves in the destination slot reads as the source slot did. -/
theorem copied (b : Bool) (s : Fin 2) (k k' : Fin 8) (fd fs : (comm b).view.ty.Contents (Elt F)) :
    (slotV b s k').read (Elt F) ((slotM b s k').view.write (Elt F) fd ((slotM b s k).view.read (Elt F) fs) Finset.univ)
      = (slotV b s k).read (Elt F) fs := by
  funext y
  obtain ⟨x, rfl⟩ := (Shape.reshapeEquiv (squeezes_S1x1x256x512_S256x512).numel_eq).surjective y
  exact View.read_write_reshape (v := slotV b s k') _ fd _ x

/-- The amount every copy adds to a semaphore. -/
abbrev N : ℕ := (slotM true 0 0).view.dmaCredit

theorem N_pos : 0 < N := View.dmaCredit_pos _ (by decide)
theorem credit (b : Bool) (s : Fin 2) (k : Fin 8) : (slotM b s k).view.dmaCredit = N := by cases b <;> rfl

/-! ## The values -/

/-- The operands as the launch stages them on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The rows of step `j`, and a stripe's columns. -/
def xrows (c : Dev nD) (b : Bool) (j : Fin 8) : Vec F S256x256 .bf16 := (xM : Memref sig .tc .vmem S2048x256 .bf16).view.readAt (Elt F) (rowR c b j).toLoadRect (xstg m ρ c)
def wcols (c : Dev nD) (b : Bool) (s : Fin 2) : Vec F S256x512 .bf16 := (wM : Memref sig .tc .vmem S256x2048 .bf16).view.readAt (Elt F) (colR b s).toLoadRect (wstg m ρ c)

/-- What device `c` sends at hop `n`: the started sum at hop `0`, afterwards what it received plus its own term. -/
def val (b : Bool) (s : Fin 2) : ℕ → Dev nD → Vec F S1x1x256x512 .bf16
  | 0, c => first (xrows m ρ c b 0) (wcols m ρ c b s)
  | n + 1, c => next (xrows m ρ c b (Fin.ofNat 8 (n + 1))) (wcols m ρ c b s) (val b s n (src b c))

/-- What it writes to the output stripe. -/
def outv (c : Dev nD) (b : Bool) (s : Fin 2) : FVec F S256x512 .f32 :=
  final (xrows m ρ c b 7) (wcols m ρ c b s) (val m ρ b s 6 (src b c))

theorem val_succ (b : Bool) (s : Fin 2) (h : Fin 6) (c : Dev nD) :
    val m ρ b s h.succ.val c = next (xrows m ρ c b h.castSucc.succ) (wcols m ρ c b s) (val m ρ b s h.castSucc.val (src b c)) := by
  have e : Fin.ofNat 8 (h.val + 1) = h.castSucc.succ := by revert h; decide
  show next (xrows m ρ c b (Fin.ofNat 8 (h.val + 1))) _ _ = _
  rw [e]; rfl

/-! ## The cells -/

/-- A device's cells: its barrier, and for each copy the receiver's (`true`) and the sender's (`false`). -/
abbrev Cell : Type := Option (Bool × Hop)

abbrev xsem (k : Bool × Hop) : SemLoc sig := .dma (cond k.1 (recvS k.2) (sendS k.2))
abbrev csem : Cell → SemLoc sig
  | none => .reg barS
  | some k => xsem k

abbrev cell (c : Dev nD) (k : Cell) : GSem nD τ sig := ((c : Thread nD τ), csem k)

theorem xsem_injective : Function.Injective xsem := by decide +kernel
theorem xsem_ne_bar (k : Bool × Hop) : xsem k ≠ (.reg barS : SemLoc sig) := fun h => by cases h

theorem csem_injective : Function.Injective csem
  | none, none, _ => rfl
  | none, some k, h => absurd h.symm (xsem_ne_bar k)
  | some k, none, h => absurd h (xsem_ne_bar k)
  | some k, some k', h => congrArg some (xsem_injective h)

/-! ## The schedule -/

/-- What the signal of duty `b` hands device `c`: the slots it will write in direction `b`. -/
def barPay (c : Dev nD) (b : Bool) : sProp 𝕄 :=
  bigSep Finset.univ fun p : Fin 7 × Fin 2 => slotAny (F := F) (nxt b c) b p.2 p.1.succ

/-- What a copy hands: to the receiver the slot it wrote, to the sender the slot it read. -/
def xferPay (c : Dev nD) (k : Bool × Hop) : sProp 𝕄 :=
  match k with
  | (true, (h, s, b)) => slotAt c b s h.succ (val m ρ b s h.val (src b c))
  | (false, (h, s, b)) => slotAt c b s h.castSucc (val m ρ b s h.val c)

omit [FloatOps F] in
instance barPay_storable (c : Dev nD) (b : Bool) : BI.Storable (upEmb : UEmb _ 𝕄) (barPay (F := F) c b) := by
  unfold barPay; infer_instance
instance xferPay_storable (c : Dev nD) (k : Bool × Hop) : BI.Storable (upEmb : UEmb _ 𝕄) (xferPay m ρ c k) := by
  unfold xferPay; split <;> infer_instance

/-- One round. A barrier cell has a duty of one unit for each direction, a copy's cell the one duty of the copy's amount. -/
def rd : Rounds.Schedule (GSem nD τ sig) Bool 𝕄 where
  duties g r := if r = 0 ∧ g.1.2 = .tc then (if g.2 = .reg barS then Finset.univ else if ∃ k, xsem k = g.2 then {false} else ∅) else ∅
  unitless _ := False
  amount g _ _ := if g.2 = .reg barS then 1 else N
  payload g _ d :=
    if g.2 = .reg barS then barPay g.1.1 d
    else if h : ∃ k, xsem k = g.2 then xferPay m ρ g.1.1 h.choose
    else iprop(emp)
  amount_pos g _ _ _ := by
    by_cases h : g.2 = .reg barS
    · rw [if_pos h]; exact Nat.one_pos
    · rw [if_neg h]; exact N_pos

instance rd_storable (g : GSem nD τ sig) (r : ℕ) (d : Bool) : BI.Storable (upEmb : UEmb _ 𝕄) ((rd (F := F) m ρ).payload g r d) := by
  show BI.Storable upEmb (if g.2 = .reg barS then barPay g.1.1 d
    else if h : ∃ k, xsem k = g.2 then xferPay m ρ g.1.1 h.choose else iprop(emp))
  (repeat' split) <;> infer_instance

section Sched
variable (c : Dev nD) (k : Bool × Hop)

theorem duties_bar : (rd (F := F) m ρ).duties (cell c none) 0 = Finset.univ := by
  dsimp only [rd]; rw [if_pos ⟨rfl, rfl⟩, if_pos rfl]
theorem duties_x : (rd (F := F) m ρ).duties (cell c (some k)) 0 = {false} := by
  dsimp only [rd]; rw [if_pos ⟨rfl, rfl⟩, if_neg (xsem_ne_bar k), if_pos ⟨k, rfl⟩]
theorem duties_later (g : GSem nD τ sig) : ∀ r, 1 ≤ r → (rd (F := F) m ρ).duties g r = ∅ :=
  fun r hr => by dsimp only [rd]; rw [if_neg fun h => by omega]
theorem amount_bar (d : Bool) : (rd (F := F) m ρ).amount (cell c none) 0 d = 1 := by dsimp only [rd]; exact if_pos rfl
theorem amount_x (d : Bool) : (rd (F := F) m ρ).amount (cell c (some k)) 0 d = N := by dsimp only [rd]; exact if_neg (xsem_ne_bar k)
theorem expect_bar : (rd (F := F) m ρ).expect (cell c none) 0 = 2 := by
  unfold Schedule.expect Schedule.amountOf
  rw [duties_bar, Finset.sum_congr rfl fun d _ => amount_bar m ρ c d, Finset.sum_const, Finset.card_univ, Fintype.card_bool, smul_eq_mul]
theorem expect_x : (rd (F := F) m ρ).expect (cell c (some k)) 0 = N := by
  unfold Schedule.expect Schedule.amountOf; rw [duties_x, Finset.sum_singleton, amount_x]
theorem payload_bar (d : Bool) : (rd (F := F) m ρ).payload (cell c none) 0 d = barPay c d := by dsimp only [rd]; exact if_pos rfl
theorem payload_x (d : Bool) : (rd (F := F) m ρ).payload (cell c (some k)) 0 d = xferPay m ρ c k := by
  have h : ∃ k', xsem k' = (cell c (some k)).2 := ⟨k, rfl⟩
  dsimp only [rd]; rw [if_neg (xsem_ne_bar k), dif_pos h]
  congr 1; exact xsem_injective h.choose_spec
theorem rest_bar : bigSep ((rd (F := F) m ρ).duties (cell c none) 0 \ ∅) (fun d => (rd (F := F) m ρ).payload (cell c none) 0 d)
    = iprop(barPay c true ∗ barPay c false) := by
  rw [Finset.sdiff_empty, duties_bar, bigSep_univ_eq_bigSepL [true, false] (by decide) (by decide), bigSepL_cons_cons, bigSepL_singleton,
    payload_bar, payload_bar]
  rfl
theorem rest_x : bigSep ((rd (F := F) m ρ).duties (cell c (some k)) 0 \ ∅) (fun d => (rd (F := F) m ρ).payload (cell c (some k)) 0 d) = xferPay m ρ c k := by
  rw [Finset.sdiff_empty, duties_x, bigSep_singleton, payload_x]

end Sched

/-! ## What is owed; the levels -/

/-- The credit that copy `i` of device `c` brings to its receiver. -/
def due (c : Dev nD) (i : Hop) : CellTallies nD τ sig Unit := tallyAt (cell (nxt i.2.2 c) (some (true, i))) () N

/-- The copies still to be made, as a debt. -/
def owed (c : Dev nD) (l : List Hop) : CellTallies nD τ sig Unit := (l.map (due c)).sum

/-- At launch a device owes all its copies and a unit to either neighbour's barrier. -/
def O₁ (c : Dev nD) : CellTallies nD τ sig Unit := owed c copies + tallyAt (cell (nxt true c) none) () 1
def O₀ (c : Dev nD) : CellTallies nD τ sig Unit := O₁ c + tallyAt (cell (nxt false c) none) () 1

theorem owed_cons (c : Dev nD) (i : Hop) (l : List Hop) : owed c (i :: l) = owed c l + due c i := by
  unfold owed; rw [List.map_cons, List.sum_cons, add_comm]

def L (g : GSem nD τ sig) : Finset Unit := if g.1.2 = .tc then {()} else ∅

/-- Barriers at level one, the receiver's cell of hop `h` at `h + 2`, everything else at zero. -/
def lv (g : GSem nD τ sig) (_ : Unit) : ℕ :=
  if g.2 = .reg barS then 1 else if h : ∃ i : Hop, xsem (true, i) = g.2 then h.choose.1.val + 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (cell c none) () = 1 := if_pos rfl
theorem lv_recv (c : Dev nD) (i : Hop) : lv (cell c (some (true, i))) () = i.1.val + 2 := by
  have h : ∃ j : Hop, xsem (true, j) = (cell c (some (true, i))).2 := ⟨i, rfl⟩
  unfold lv
  rw [if_neg (xsem_ne_bar _), dif_pos h, (Prod.mk.inj (xsem_injective h.choose_spec)).2]
theorem lv_other (c : Dev nD) (q : DmaSem sig) (hq : ∀ i : Hop, xsem (true, i) ≠ .dma q) : lv ((c : Thread nD τ), .dma q) () = 0 := by
  unfold lv
  rw [if_neg (fun h => by cases h), dif_neg (fun ⟨i, h⟩ => hq i h)]

theorem due_pos {c : Dev nD} {i : Hop} {g : GSem nD τ sig} {u : Unit} (h : 0 < due c i g u) : g = cell (nxt i.2.2 c) (some (true, i)) := by
  unfold due at h
  rw [tallyAt_apply] at h
  by_contra hn
  rw [if_neg (fun h' => hn h'.1)] at h
  exact Nat.lt_irrefl 0 h

theorem owed_pos {c : Dev nD} {l : List Hop} {g : GSem nD τ sig} {u : Unit} (h : 0 < owed c l g u) :
    ∃ i ∈ l, g = cell (nxt i.2.2 c) (some (true, i)) := by
  induction l with
  | nil => exact absurd h (Nat.lt_irrefl 0)
  | cons i l ih =>
    rw [owed_cons, Pi.add_apply, Finsupp.add_apply] at h
    rcases Nat.eq_zero_or_pos (due c i g u) with h0 | h0
    · rw [h0, Nat.add_zero] at h
      obtain ⟨j, hj, e⟩ := ih h
      exact ⟨j, List.mem_cons_of_mem _ hj, e⟩
    · exact ⟨i, List.mem_cons_self, due_pos h0⟩

theorem O₀_pos {c : Dev nD} {g : GSem nD τ sig} {u : Unit} (h : 0 < O₀ c g u) :
    (∃ i : Hop, g = cell (nxt i.2.2 c) (some (true, i))) ∨ ∃ b, g = cell (nxt b c) none := by
  unfold O₀ O₁ at h
  generalize copies = l at h
  rw [Pi.add_apply, Finsupp.add_apply, Pi.add_apply, Finsupp.add_apply, tallyAt_apply, tallyAt_apply] at h
  by_contra hn
  rw [not_or] at hn
  rw [if_neg (fun h' => hn.2 ⟨true, h'.1⟩), if_neg (fun h' => hn.2 ⟨false, h'.1⟩)] at h
  obtain ⟨i, -, e⟩ := owed_pos h
  exact hn.1 ⟨i, e⟩

/-- A wait on a cell of level `n` is allowed while only receivers' cells of higher levels are owed. -/
theorem mayWait (c : Dev nD) (k : SemLoc sig) (n : ℕ) (hk : lv ((c : Thread nD τ), k) () ≤ n) (l : List Hop) (hl : ∀ i ∈ l, n < i.1.val + 2) :
    (levAts L lv : sProp 𝕄) ⊢ MayWait (c : Thread nD τ) k () (owed c l) :=
  MayOwe.of_cut (L := L) (lev := lv) n (fun p hp => by rw [Finset.mem_singleton.mp hp, L_tc]; exact Finset.mem_singleton_self _)
    (fun g u hg => by obtain ⟨i, hi, rfl⟩ := owed_pos hg; exact Finset.mem_singleton_self _)
    (fun p hp => by rw [Finset.mem_singleton.mp hp]; exact hk)
    (fun g u hg => by obtain ⟨i, hi, rfl⟩ := owed_pos hg; rw [lv_recv]; exact hl i hi)

/-- The waits of the staging copies: at launch, when everything is owed, and at the end, when nothing is. -/
theorem mayWait_stage (c : Dev nD) (q : DmaSem sig) (hq : ∀ i : Hop, xsem (true, i) ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨b, rfl⟩ <;> exact Finset.mem_singleton_self _)
      (fun p hp => by rw [Finset.mem_singleton.mp hp, lv_other c q hq])
      (fun g u hg => by
        rcases O₀_pos hg with ⟨i, rfl⟩ | ⟨b, rfl⟩
        · rw [lv_recv]; omega
        · rw [lv_bar]; decide)
  · rw [MayWait_zero]; iintro -; iempintro

end Cert.KernelIdeal.Ring

end
-- ==== Proof.KernelIdeal.Steps.lean ====
/-
# One rule for each kind of step

For every step of the schedule, what it takes and what it leaves: the stores and loads, the copy to
the neighbour, the arrival of the neighbour's copy, the final waits, and the hop made of these. The
rule for a list of steps (`wp_each`) then gives the whole body from one rule per kind of step.
-/
module

public import proofs.«01_k».proof.Proof.KernelIdeal.Protocol

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Program `p` runs on device `c` to its end, where `Q` holds. -/
abbrev runs (c : Dev nD) (p : P F) (Q : PUnit → sProp 𝕄) : sProp 𝕄 :=
  wp frame (wpE (defs₀ (F := F)) 𝒱₀ (c : Thread nD τ) none) Set.univ p Q

/-! ## What stays true throughout -/

/-- Every cell of every device follows the schedule, under the names `K`, and every cell has begun. -/
def records (K : Dev nD × Cell → ℕ) : sProp 𝕄 :=
  iprop((bigSep Finset.univ fun ck : Dev nD × Cell => cellInv ER (rd m ρ) (K ck) (cell ck.1 ck.2))
    ∗ (bigSep Finset.univ fun ck : Dev nD × Cell => reached ER (cell ck.1 ck.2) 0) ∗ levAts L lv)

instance records_persistent (K : Dev nD × Cell → ℕ) : BI.Persistent (records m ρ K) := by unfold records; infer_instance

variable (K : Dev nD × Cell → ℕ)

theorem inv_at (c : Dev nD) (k : Cell) : records m ρ K ⊢ cellInv ER (rd m ρ) (K (c, k)) (cell c k) := by
  have h : (bigSep Finset.univ fun ck : Dev nD × Cell => (cellInv ER (rd m ρ) (K ck) (cell ck.1 ck.2) : sProp 𝕄))
      ⊢ cellInv ER (rd m ρ) (K (c, k)) (cell c k) := bigSep_elim (Finset.mem_univ (c, k))
  unfold records
  iintro ⟨H, -, -⟩
  iapply h; iexact H

theorem reached_at (c : Dev nD) (k : Cell) : records m ρ K ⊢ (reached ER (cell c k) 0 : sProp 𝕄) := by
  have h : (bigSep Finset.univ fun ck : Dev nD × Cell => (reached ER (cell ck.1 ck.2) 0 : sProp 𝕄))
      ⊢ reached ER (cell c k) 0 := bigSep_elim (Finset.mem_univ (c, k))
  unfold records
  iintro ⟨-, H, -⟩
  iapply h; iexact H

theorem levels_at : records m ρ K ⊢ (levAts L lv : sProp 𝕄) := by
  unfold records
  iintro ⟨-, -, H⟩; iexact H

/-- The two staged operands. -/
def xw (c : Dev nD) : sProp 𝕄 :=
  iprop(((c : Thread nD τ).loc cc0_stg0_0 ↦{fullShare} xstg m ρ c) ∗ ((c : Thread nD τ).loc cc0_stg1_0 ↦{fullShare} wstg m ρ c))

/-- The debt `l` remains, and some waits have been made. -/
def debt (c : Dev nD) (l : List Hop) : sProp 𝕄 := iprop(∃ W : Waits sig Unit, owes (c : Thread nD τ) (owed c l) W)

/-! ## Loads and stores -/

theorem wp_operands (c : Dev nD) (b : Bool) (s : Fin 2) (j : Fin 8) (k : Vec F S256x256 .bf16 → Vec F S256x512 .bf16 → P F) (Q : PUnit → sProp 𝕄) :
    iprop(xw m ρ c ∗ (xw m ρ c -∗ runs c (k (xrows m ρ c b j) (wcols m ρ c b s)) Q)) ⊢ runs c (operands c b s j k) Q := by
  unfold xw operands
  iintro ⟨⟨Hx, Hw⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx] <;> iassumption

theorem wp_put (c : Dev nD) (b : Bool) (s : Fin 2) (j : Fin 8) (v : FVec F S1x1x256x512 .bf16) (k : P F) (Q : PUnit → sProp 𝕄) :
    iprop(slotAny c b s j ∗ (slotAt c b s j v -∗ runs c k Q)) ⊢ runs c (put b s j v k) Q := by
  unfold slotAny slotAt slotPts put
  iintro ⟨⟨%f, H⟩, Hk⟩
  iapply (wp_load_rect 𝒱₀ (c : Thread nD τ) none Set.univ (m := comm b) (r := slotR s j) (Finset.Subset.refl _)) $$ H; iintro H
  iapply (wp_store 𝒱₀ (c : Thread nD τ) none Set.univ (m := comm b) (r := slotR s j) (S := (slotV b s j).set) (Mk := Finset.univ) (Finset.Subset.refl _)) $$ H; iintro H
  iapply Hk
  iexists _
  isplitr
  · ipureintro; exact View.read_write_univ (v := slotV b s j) f v
  iexact H

/-! ## The copy -/

/-- What a copy needs besides its source: the two duties it performs and the neighbour's slot. -/
def copyPre (c : Dev nD) (i : Hop) : sProp 𝕄 :=
  iprop(dutyTok ER (cell c (some (false, i))) 0 false ∗ dutyTok ER (cell (nxt i.2.2 c) (some (true, i))) 0 false
    ∗ slotAny (F := F) (nxt i.2.2 c) i.2.2 i.2.1 i.1.succ)

/-- The credit with which the sender later waits for its slot. -/
def sendCred (c : Dev nD) (i : Hop) : sProp 𝕄 := cred (tallyAt (cell c (some (false, i))) () N)

theorem wp_copyTo (n c : Dev nD) (h : Fin 7) (s : Fin 2) (b : Bool) (hn : n = nxt b c) (l : List Hop) (k : P F) (Q : PUnit → sProp 𝕄) :
    iprop(records m ρ K ∗ slotAt c b s h.castSucc (val m ρ b s h.val c) ∗ copyPre c (h, s, b) ∗ debt c ((h, s, b) :: l)
        ∗ (sendCred c (h, s, b) ∗ debt c l -∗ runs c k Q))
      ⊢ runs c (.op (.enqueueDma (slotM b s h.castSucc) (.remote (Dev.tc n) (slotM b s h.succ) (.dma (sendS (h, s, b))))
          (.dma (recvS (h, s, b))) (slot_exact _ _ _) (slot_exact _ _ _) ⟨⟨rfl, Or.inl rfl⟩, trivial⟩) fun _ => k) Q := by
  subst hn
  unfold slotAt copyPre debt slotAny sendCred
  iintro ⟨#HR, ⟨%fs, %hv, Hsrc⟩, ⟨HtS, HtR, ⟨%fd, Hdst⟩⟩, ⟨%W, HO⟩, Hk⟩
  have hpay₁ : ((slotM b s h.castSucc).view.loc (c : Thread nD τ) ↦[(slotM b s h.castSucc).view.set]{fullShare} fs : sProp 𝕄)
      ⊢ (rd m ρ).payload (cell c (some (false, (h, s, b)))) 0 false := by
    rw [payload_x]; unfold xferPay slotAt slotPts
    iintro H; iexists fs
    isplitr; · ipureintro; exact hv
    rw [← slotM_set]; iexact H
  have hpay₂ : ((slotM b s h.succ).view.loc (nxt b c : Thread nD τ) ↦[(slotM b s h.succ).view.set]{fullShare}
      ((slotM b s h.succ).view.write (Elt F) fd ((slotM b s h.castSucc).view.read (Elt F) fs) Finset.univ) : sProp 𝕄)
      ⊢ (rd m ρ).payload (cell (nxt b c) (some (true, (h, s, b)))) 0 false := by
    rw [payload_x]; unfold xferPay slotAt slotPts
    iintro H; iexists _
    isplitr
    · ipureintro; rw [src_nxt, ← hv]; exact copied b s _ _ fd fs
    rw [← slotM_set]; iexact H
  iapply (Rounds.wp_send_pointsTo 𝒱₀ ER (rd m ρ) (c : Thread nD τ) none (c' := (nxt b c : Thread nD τ))
    (src := slotM b s h.castSucc) (dst := slotM b s h.succ) (sS := xsem (false, (h, s, b))) (sem := xsem (true, (h, s, b)))
    (κ₁ := K (c, some (false, (h, s, b)))) (κ₂ := K (nxt b c, some (true, (h, s, b))))
    (r₁ := 0) (r₂ := 0) (d₁ := false) (d₂ := false) (fs := fs) (fd := fd)
    (by rw [show (((c : Thread nD τ), xsem (false, (h, s, b))) : GSem nD τ sig) = cell c (some (false, (h, s, b))) from rfl, duties_x]; exact Finset.mem_singleton_self _)
    (by rw [show (((nxt b c : Dev nD) : Thread nD τ), xsem (true, (h, s, b))) = cell (nxt b c) (some (true, (h, s, b))) from rfl, duties_x]; exact Finset.mem_singleton_self _)
    () () N (credit b s h.succ) (amount_x m ρ c (false, (h, s, b)) false) (amount_x m ρ (nxt b c) (true, (h, s, b)) false)
    (owed c l) (owed_cons c (h, s, b) l) (W := W) hpay₁ hpay₂) $$ [Hsrc Hdst HO HtS HtR]
  · isplitr; · iapply (inv_at m ρ K c (some (false, (h, s, b)))); iexact HR
    isplitr; · iapply (inv_at m ρ K (nxt b c) (some (true, (h, s, b)))); iexact HR
    isplitl [Hsrc]; · unfold slotPts; rw [slotM_set]; iexact Hsrc
    isplitl [Hdst]; · unfold slotPts; rw [slotM_set]; iexact Hdst
    isplitl [HO]; · iexact HO
    isplitl [HtS]; · iexact HtS
    isplitr; · iapply (reached_at m ρ K c (some (false, (h, s, b)))); iexact HR
    isplitl [HtR]; · iexact HtR
    iapply (reached_at m ρ K (nxt b c) (some (true, (h, s, b)))); iexact HR
  iintro ⟨Hc, HO⟩
  iapply Hk
  isplitl [Hc]; · iexact Hc
  iexists W; iexact HO

theorem wp_copy (c : Dev nD) (i : Hop) (l : List Hop) (k : P F) (Q : PUnit → sProp 𝕄) :
    iprop(records m ρ K ∗ slotAt c i.2.2 i.2.1 i.1.castSucc (val m ρ i.2.2 i.2.1 i.1.val c) ∗ copyPre c i ∗ debt c (i :: l)
        ∗ (sendCred c i ∗ debt c l -∗ runs c k Q))
      ⊢ runs c (copy c i k) Q :=
  wp_copyTo m ρ K (tgt i.2.2 c) c i.1 i.2.1 i.2.2 (tgt_eq i.2.2 c) l k Q

/-! ## The waits -/

/-- A wait on a copy's cell: what its duty left, and the cell closed at zero. -/
theorem wp_await (c : Dev nD) (e : Bool) (i : Hop) (l : List Hop) {q : DmaSem sig} (hq : SemLoc.dma q = xsem (e, i)) (b : Bool) (s : Fin 2) (j j' : Fin 8)
    (hl : ∀ i' ∈ l, lv (cell c (some (e, i))) () < i'.1.val + 2)
    (k : P F) (Q : PUnit → sProp 𝕄) :
    iprop(records m ρ K ∗ atPos ER (cell c (some (e, i))) 0 ∅ 0 ∗ cred (tallyAt (cell c (some (e, i))) () N) ∗ debt c l
        ∗ (xferPay m ρ c (e, i) ∗ semVal (cell c (some (e, i))) 0 ∗ debt c l -∗ runs c k Q))
      ⊢ runs c (.op (.waitDma2 q (slotM b s j) (slotM b s j') (slot_exact _ _ _) (slot_exact _ _ _)) fun _ => k) Q := by
  unfold debt
  iintro ⟨#HR, Hat, Hc, ⟨%W, HO⟩, Hk⟩
  iapply (Rounds.wp_wait_rest_token 𝒱₀ ER (rd m ρ) (c : Thread nD τ) none (κ := K (c, some (e, i)))
      (wpE_waitDma2_eq 𝒱₀ (c : Thread nD τ) none Set.univ) (Set.mem_univ _) () (O := owed c l) (W := W) (R := 0) (m := 0) (T := ∅)
      (by rw [Nat.zero_add, credit, hq]; exact (expect_x m ρ c (e, i)).symm)) $$ [Hc HO Hat]
  · rw [hq, credit]
    isplitr; · iapply (inv_at m ρ K c (some (e, i))); iexact HR
    isplitl [Hc]; · iexact Hc
    isplitl [HO]; · iexact HO
    isplitr
    · iapply (mayWait c (xsem (e, i)) _ (le_refl _) l hl)
      iapply (levels_at m ρ K); iexact HR
    iexact Hat
  rw [hq]
  iintro ⟨HO, Hat, -, Hpay⟩
  ihave Hp := (Entails.of_eq (rest_x m ρ c (e, i))) $$ Hpay
  imod (Rounds.cell_close ER (rd m ρ) (Set.mem_univ (K (c, some (e, i)))) (fun h => h) (R := 0 + 1) (duties_later m ρ (cell c (some (e, i))))) $$ [Hat] with Hz
  · isplitr; · iapply (inv_at m ρ K c (some (e, i))); iexact HR
    iexact Hat
  iapply Hk
  isplitl [Hp]; · iexact Hp
  isplitl [Hz]; · iexact Hz
  iexists _; iexact HO

/-- What the receiver of copy `i` waits with. -/
def recvPre (c : Dev nD) (i : Hop) : sProp 𝕄 :=
  iprop(atPos ER (cell c (some (true, i))) 0 ∅ 0 ∗ cred (tallyAt (cell c (some (true, i))) () N))

theorem wp_arrive (c : Dev nD) (i : Hop) (l : List Hop) (hl : ∀ i' ∈ l, i.1.val < i'.1.val) (k : Vec F S1x1x256x512 .bf16 → P F) (Q : PUnit → sProp 𝕄) :
    iprop(records m ρ K ∗ recvPre c i ∗ debt c l
        ∗ (slotAny c i.2.2 i.2.1 i.1.succ ∗ semVal (cell c (some (true, i))) 0 ∗ debt c l
            -∗ runs c (k (val m ρ i.2.2 i.2.1 i.1.val (src i.2.2 c))) Q))
      ⊢ runs c (arrive i k) Q := by
  obtain ⟨h, s, b⟩ := i
  unfold recvPre arrive
  iintro ⟨#HR, ⟨Hat, Hc⟩, HO, Hk⟩
  iapply (wp_await m ρ K c true (h, s, b) l rfl b s h.castSucc h.succ (fun i' hi => by rw [lv_recv]; have := hl i' hi; dsimp only at this ⊢; omega) _ Q)
  isplitr; · iexact HR
  isplitl [Hat]; · iexact Hat
  isplitl [Hc]; · iexact Hc
  isplitl [HO]; · iexact HO
  iintro ⟨Hp, Hz, HO⟩
  unfold xferPay slotAt slotPts
  icases Hp with ⟨%f, %hv, H⟩
  iapply (wp_load_rect 𝒱₀ (c : Thread nD τ) none Set.univ (m := comm b) (r := slotR s h.succ) (Finset.Subset.refl _)) $$ H; iintro H
  rw [← hv]
  iapply Hk
  isplitl [H]; · unfold slotAny slotPts; iexists f; iexact H
  isplitl [Hz] <;> iassumption

/-! ## The steps of the schedule -/

/-- Starting a sum takes slot `0` and the copy's needs, and leaves the sender's credit. -/
def startPre (c : Dev nD) (q : Fin 2 × Bool) : sProp 𝕄 := iprop(slotAny (F := F) c q.2 q.1 0 ∗ copyPre c (0, q))

theorem wp_start (c : Dev nD) (q : Fin 2 × Bool) (l : List Hop) (k : P F) (Q : PUnit → sProp 𝕄) :
    iprop(records m ρ K ∗ startPre c q ∗ (xw m ρ c ∗ debt c ((0, q) :: l)) ∗ (sendCred c (0, q) ∗ (xw m ρ c ∗ debt c l) -∗ runs c k Q))
      ⊢ runs c (start c q k) Q := by
  obtain ⟨s, b⟩ := q
  unfold startPre start
  iintro ⟨#HR, ⟨Hs, Hcp⟩, ⟨Hxw, HO⟩, Hk⟩
  iapply (wp_operands m ρ c b s 0)
  isplitl [Hxw]; · iexact Hxw
  iintro Hxw
  iapply (wp_put c b s 0)
  isplitl [Hs]; · iexact Hs
  iintro Hs
  iapply (wp_copy m ρ K c (0, s, b) l)
  isplitr; · iexact HR
  isplitl [Hs]; · iexact Hs
  isplitl [Hcp]; · iexact Hcp
  isplitl [HO]; · iexact HO
  iintro ⟨Hc, HO⟩
  iapply Hk
  isplitl [Hc]; · iexact Hc
  isplitl [Hxw] <;> iassumption

/-- A hop takes an arrival and a copy, and leaves the sender's credit and the arrival's cell at zero. -/
def hopPre (c : Dev nD) (i : Fin 6 × Fin 2 × Bool) : sProp 𝕄 := iprop(recvPre (F := F) c (i.1.castSucc, i.2) ∗ copyPre c (i.1.succ, i.2))
def hopPost (c : Dev nD) (i : Fin 6 × Fin 2 × Bool) : sProp 𝕄 :=
  iprop(sendCred (F := F) c (i.1.succ, i.2) ∗ semVal (cell c (some (true, (i.1.castSucc, i.2)))) 0)

theorem wp_hop (c : Dev nD) (i : Fin 6 × Fin 2 × Bool) (l : List Hop) (hl : ∀ i' ∈ l, i.1.val < i'.1.val) (k : P F) (Q : PUnit → sProp 𝕄) :
    iprop(records m ρ K ∗ hopPre c i ∗ (xw m ρ c ∗ debt c ((i.1.succ, i.2) :: l)) ∗ (hopPost c i ∗ (xw m ρ c ∗ debt c l) -∗ runs c k Q))
      ⊢ runs c (hop c i k) Q := by
  obtain ⟨h, s, b⟩ := i
  unfold hopPre hopPost hop
  iintro ⟨#HR, ⟨Hr, Hcp⟩, ⟨Hxw, HO⟩, Hk⟩
  iapply (wp_operands m ρ c b s h.castSucc.succ)
  isplitl [Hxw]; · iexact Hxw
  iintro Hxw
  iapply (wp_arrive m ρ K c (h.castSucc, s, b) ((h.succ, s, b) :: l) (fun i' hi => by
    rcases List.mem_cons.mp hi with rfl | hi
    · exact Nat.lt_succ_self _
    · exact hl i' hi))
  isplitr; · iexact HR
  isplitl [Hr]; · iexact Hr
  isplitl [HO]; · iexact HO
  iintro ⟨Hs, Hz, HO⟩
  iapply (wp_put c b s h.succ.castSucc)
  isplitl [Hs]; · iexact Hs
  rw [← val_succ]
  iintro Hs
  iapply (wp_copy m ρ K c (h.succ, s, b) l)
  isplitr; · iexact HR
  isplitl [Hs]; · iexact Hs
  isplitl [Hcp]; · iexact Hcp
  isplitl [HO]; · iexact HO
  iintro ⟨Hc, HO⟩
  iapply Hk
  isplitl [Hc Hz]; · isplitl [Hc] <;> iassumption
  isplitl [Hxw] <;> iassumption

/-- The output, with the stripes outside `l` written. -/
def outOf (c : Dev nD) (l : List (Fin 2 × Bool)) : sProp 𝕄 :=
  iprop(∃ f : Buf (Elt F) ((c : Thread nD τ).loc cc0_stg2_0),
    ⌜∀ s b, (s, b) ∉ l → ((oM : Memref sig .tc .vmem S256x2048 .f32).access (colR b s)).read (Elt F) f = outv m ρ c b s⌝
      ∗ ((c : Thread nD τ).loc cc0_stg2_0 ↦{fullShare} f))

theorem colR_disjoint (b : Bool) (s : Fin 2) (b' : Bool) (s' : Fin 2) (h : (s, b) ≠ (s', b')) : Disjoint (colR b s).set (colR b' s').set :=
  Rect.unit_disjoint 1 (by revert b s b' s'; decide)

/-- The last hop takes an arrival, and leaves the arrived slot and its cell at zero. -/
def finishPost (c : Dev nD) (q : Fin 2 × Bool) : sProp 𝕄 :=
  iprop(slotAny (F := F) c q.2 q.1 7 ∗ semVal (cell c (some (true, (6, q)))) 0)

theorem wp_finish (c : Dev nD) (q : Fin 2 × Bool) (l : List (Fin 2 × Bool)) (hq : q ∉ l) (k : P F) (Q : PUnit → sProp 𝕄) :
    iprop(records m ρ K ∗ recvPre c (6, q) ∗ (xw m ρ c ∗ debt c [] ∗ outOf m ρ c (q :: l))
        ∗ (finishPost c q ∗ (xw m ρ c ∗ debt c [] ∗ outOf m ρ c l) -∗ runs c k Q))
      ⊢ runs c (finish c q k) Q := by
  obtain ⟨s, b⟩ := q
  unfold finishPost finish
  iintro ⟨#HR, Hr, ⟨Hxw, HO, Hout⟩, Hk⟩
  iapply (wp_operands m ρ c b s 7)
  isplitl [Hxw]; · iexact Hxw
  iintro Hxw
  iapply (wp_arrive m ρ K c (6, s, b) [] (fun i' hi => absurd hi List.not_mem_nil))
  isplitr; · iexact HR
  isplitl [Hr]; · iexact Hr
  isplitl [HO]; · iexact HO
  iintro ⟨Hs, Hz, HO⟩
  unfold outOf
  icases Hout with ⟨%f, %hf, Hout⟩
  iapply (wp_load 𝒱₀ (c : Thread nD τ) none Set.univ (m := oM) (Finset.subset_univ _)) $$ Hout; iintro Hout
  iapply (wp_store 𝒱₀ (c : Thread nD τ) none Set.univ (m := oM) (r := colR b s) (Mk := Finset.univ) (Finset.subset_univ _)) $$ Hout; iintro Hout
  iapply Hk
  isplitl [Hs Hz]
  · isplitl [Hs]; · iexact Hs
    iexact Hz
  isplitl [Hxw]; · iexact Hxw
  isplitl [HO]; · iexact HO
  iexists _
  isplitr
  · ipureintro
    intro s' b' hn
    by_cases e : (s', b') = (s, b)
    · obtain ⟨rfl, rfl⟩ := Prod.mk.inj e
      exact View.read_write_univ (v := (oM : Memref sig .tc .vmem S256x2048 .f32).access (colR b' s')) f _
    · refine (View.read_slice_write_slice_of_disjoint (v := (oM : Memref sig .tc .vmem S256x2048 .f32).view) (colR b' s') (colR b s) f _ _ ?_).trans
        (hf s' b' fun h => (List.mem_cons.mp h).elim e hn)
      exact View.disjoint_slice (colR_disjoint b' s' b s e)
  iexact Hout

/-- A final wait takes the sender's position and credit, and leaves the slot and the cell at zero. -/
def sentPre (c : Dev nD) (i : Hop) : sProp 𝕄 := iprop(atPos ER (cell c (some (false, i))) 0 ∅ 0 ∗ sendCred (F := F) c i)
def sentPost (c : Dev nD) (i : Hop) : sProp 𝕄 := iprop(slotAny (F := F) c i.2.2 i.2.1 i.1.castSucc ∗ semVal (cell c (some (false, i))) 0)

theorem wp_sent (c : Dev nD) (i : Hop) (k : P F) (Q : PUnit → sProp 𝕄) :
    iprop(records m ρ K ∗ sentPre c i ∗ debt c [] ∗ (sentPost c i ∗ debt c [] -∗ runs c k Q))
      ⊢ runs c (sent i k) Q := by
  obtain ⟨h, s, b⟩ := i
  unfold sentPre sentPost sent sendCred
  iintro ⟨#HR, ⟨Hat, Hc⟩, HO, Hk⟩
  iapply (wp_await m ρ K c false (h, s, b) [] rfl b s h.succ h.castSucc (fun i' hi => absurd hi List.not_mem_nil) _ Q)
  isplitr; · iexact HR
  isplitl [Hat]; · iexact Hat
  isplitl [Hc]; · iexact Hc
  isplitl [HO]; · iexact HO
  iintro ⟨Hp, Hz, HO⟩
  iapply Hk
  isplitl [Hp Hz]
  · isplitl [Hp]
    · iapply (slotAt_any (F := F) c b s h.castSucc _)
      unfold xferPay; iexact Hp
    iexact Hz
  iexact HO

/-! ## Lists of steps -/

/-- A rule for a step gives the rule for the list: `A` is what each step takes, `B` what it leaves,
`S l` what is threaded through, with `l` still to come. -/
theorem wp_each {ι : Type} (c : Dev nD) (f : ι → P F → P F) (A B : ι → sProp 𝕄) (S : List ι → sProp 𝕄) (l₀ : List ι)
    (h : ∀ i l, (i :: l) <:+ l₀ → ∀ k Q, iprop(records m ρ K ∗ A i ∗ S (i :: l) ∗ (B i ∗ S l -∗ runs c k Q)) ⊢ runs c (f i k) Q)
    (k : P F) (Q : PUnit → sProp 𝕄) :
    ∀ l, l <:+ l₀ → iprop(records m ρ K ∗ bigSepL l A ∗ S l ∗ (bigSepL l B ∗ S [] -∗ runs c k Q)) ⊢ runs c (each f l k) Q := by
  intro l
  induction l with
  | nil =>
    intro _
    simp only [bigSepL_nil]
    unfold each
    iintro ⟨-, -, HS, Hk⟩
    iapply Hk
    isplitr; · iempintro
    iexact HS
  | cons i l ih =>
    intro hs
    simp only [bigSepL_cons']
    unfold each
    iintro ⟨#HR, ⟨Hi, Hl⟩, HS, Hk⟩
    iapply (h i l hs)
    isplitr; · iexact HR
    isplitl [Hi]; · iexact Hi
    isplitl [HS]; · iexact HS
    iintro ⟨HB, HS⟩
    iapply (ih ((List.suffix_cons i l).trans hs))
    isplitr; · iexact HR
    isplitl [Hl]; · iexact Hl
    isplitl [HS]; · iexact HS
    iintro ⟨HBl, HS⟩
    iapply Hk
    isplitl [HB HBl]
    · isplitl [HB] <;> iassumption
    iexact HS

end Cert.KernelIdeal.Ring

end
-- ==== Proof.KernelIdeal.Body.lean ====
/-
# The whole body

The handshake, and the schedule's four runs of steps one after the other: what a device begins with
is shared out among the steps, and what the steps leave is put together again.
-/
module

public import proofs.«01_k».proof.Proof.KernelIdeal.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ)

/-! ## Two ways to list the copies and the slots -/

omit [FloatOps F] in
theorem swap_middle (A B C D : sProp 𝕄) : iprop((A ∗ B) ∗ C ∗ D) ⊢ iprop((A ∗ C) ∗ B ∗ D) := by
  iintro ⟨⟨HA, HB⟩, HC, HD⟩
  isplitl [HA HC]
  · isplitl [HA] <;> iassumption
  isplitl [HB] <;> iassumption

omit [FloatOps F] in
theorem bigSepL_both {ι : Type} (l : List ι) (Φ Ψ : ι → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    exact equiv_iff.mp ⟨swap_middle _ _ _ _, swap_middle _ _ _ _⟩

omit [FloatOps F] in
/-- All of a type, listed as the images of two lists. -/
theorem bigSep_two {ι α β : Type} [Fintype ι] [DecidableEq ι] (f : α → ι) (g : β → ι) (l : List α) (l' : List β)
    (h : (Finset.univ : Finset ι) = (l.map f ++ l'.map g).toFinset) (hn : (l.map f ++ l'.map g).Nodup) (Φ : ι → sProp 𝕄) :
    bigSep Finset.univ Φ = iprop(bigSepL l (fun a => Φ (f a)) ∗ bigSepL l' (fun b => Φ (g b))) := by
  rw [bigSep_univ_eq_bigSepL _ h hn, bigSepL_append, bigSepL_map, bigSepL_map]

omit [FloatOps F] in
theorem list_copies (Φ : Hop → sProp 𝕄) : bigSep Finset.univ Φ = bigSepL copies Φ :=
  bigSep_univ_eq_bigSepL _ (by decide +kernel) (by decide +kernel) Φ

omit [FloatOps F] in
/-- The copies: the starts, and those of the hops. -/
theorem list_sends (Φ : Hop → sProp 𝕄) :
    bigSep Finset.univ Φ = iprop(bigSepL chains (fun q => Φ (0, q)) ∗ bigSepL hops fun i => Φ (i.1.succ, i.2)) :=
  bigSep_two (fun q => (0, q)) (fun i : Fin 6 × Fin 2 × Bool => (i.1.succ, i.2)) _ _ (by decide +kernel) (by decide +kernel) Φ

omit [FloatOps F] in
/-- The arrivals: those of the hops, and the last ones. -/
theorem list_arrivals (Φ : Hop → sProp 𝕄) :
    bigSep Finset.univ Φ = iprop(bigSepL hops (fun i => Φ (i.1.castSucc, i.2)) ∗ bigSepL chains fun q => Φ (6, q)) :=
  bigSep_two (fun i : Fin 6 × Fin 2 × Bool => (i.1.castSucc, i.2)) (fun q => (6, q)) _ _ (by decide +kernel) (by decide +kernel) Φ

omit [FloatOps F] in
/-- The slots: the first ones, and those that copies write. -/
theorem list_written (Φ : Fin 8 × Fin 2 × Bool → sProp 𝕄) :
    bigSep Finset.univ Φ = iprop(bigSepL chains (fun q => Φ (0, q)) ∗ bigSep Finset.univ fun i : Hop => Φ (i.1.succ, i.2)) := by
  rw [list_copies]
  exact bigSep_two (fun q => (0, q)) (fun i : Hop => (i.1.succ, i.2)) _ _ (by decide +kernel) (by decide +kernel) Φ

omit [FloatOps F] in
/-- The slots: those that copies read, and the last ones. -/
theorem list_read (Φ : Fin 8 × Fin 2 × Bool → sProp 𝕄) :
    bigSep Finset.univ Φ = iprop((bigSep Finset.univ fun i : Hop => Φ (i.1.castSucc, i.2)) ∗ bigSepL chains fun q => Φ (7, q)) := by
  rw [list_copies]
  exact bigSep_two (fun i : Hop => (i.1.castSucc, i.2)) (fun q => (7, q)) _ _ (by decide +kernel) (by decide +kernel) Φ

omit [FloatOps F] in
/-- A family over directions, by direction. -/
theorem by_direction {α β : Type} [Fintype α] [Fintype β] (Φ : α × β × Bool → sProp 𝕄) :
    bigSep Finset.univ Φ = iprop((bigSep Finset.univ fun p : α × β => Φ (p.1, p.2, true)) ∗ bigSep Finset.univ fun p : α × β => Φ (p.1, p.2, false)) := by
  rw [bigSep_univ_equiv ((Equiv.prodComm Bool (α × β)).trans (Equiv.prodAssoc α β Bool)) Φ, bigSep_univ_prod,
    bigSep_univ_eq_bigSepL [true, false] (by decide) (by decide), bigSepL_cons_cons, bigSepL_singleton]
  rfl

/-! ## What a device begins and ends with -/

/-- Its positions, and the tokens of the duties it performs: either neighbour's barrier, and its own
cell and the neighbour's for every copy. -/
def linear (c : Dev nD) : sProp 𝕄 :=
  iprop((atPos ER (cell c none) 0 ∅ 0 ∗ dutyTok ER (cell (nxt false c) none) 0 true ∗ dutyTok ER (cell (nxt true c) none) 0 false)
    ∗ ((bigSep Finset.univ fun i : Hop => atPos ER (cell c (some (true, i))) 0 ∅ 0)
      ∗ (bigSep Finset.univ fun i : Hop => atPos ER (cell c (some (false, i))) 0 ∅ 0))
    ∗ (bigSep Finset.univ fun i : Hop => dutyTok ER (cell c (some (false, i))) 0 false)
    ∗ (bigSep Finset.univ fun i : Hop => dutyTok ER (cell (nxt i.2.2 c) (some (true, i))) 0 false))

/-- The credits of its own waits on others. -/
def credits (c : Dev nD) : sProp 𝕄 :=
  iprop(cred (tallyAt (cell c none) () 2) ∗ bigSep Finset.univ fun i : Hop => cred (tallyAt (cell c (some (true, i))) () N))

/-- All its slots, holding anything. -/
def slots (c : Dev nD) : sProp 𝕄 := bigSep Finset.univ fun i : Fin 8 × Fin 2 × Bool => slotAny (F := F) c i.2.2 i.2.1 i.1

/-- Its cells at zero. -/
def closed (c : Dev nD) : sProp 𝕄 :=
  iprop(semVal (cell c none) 0 ∗ (bigSep Finset.univ fun i : Hop => semVal (cell c (some (true, i))) 0)
    ∗ (bigSep Finset.univ fun i : Hop => semVal (cell c (some (false, i))) 0))

/-! ## The handshake -/

theorem wp_tell (n c : Dev nD) (b : Bool) (hn : n = nxt b c) (O : CellTallies nD τ sig Unit) (W : Waits sig Unit) (k : P F) (Q : PUnit → sProp 𝕄) :
    iprop(records m ρ K ∗ dutyTok ER (cell (nxt b c) none) 0 (!b) ∗ (bigSep Finset.univ fun p : Fin 7 × Fin 2 => slotAny c (!b) p.2 p.1.succ)
        ∗ owes (c : Thread nD τ) (O + tallyAt (cell (nxt b c) none) () 1) W ∗ (owes (c : Thread nD τ) O W -∗ runs c k Q))
      ⊢ runs c (.op (.semSignal (n : Thread nD τ) barS (1 : Nat)) fun _ => k) Q := by
  subst hn
  iintro ⟨#HR, Ht, Hs, HO, Hk⟩
  iapply (Rounds.wp_signal 𝒱₀ ER (rd m ρ) (c : Thread nD τ) none (dst := (nxt b c : Thread nD τ)) (κ := K (nxt b c, none))
      (d := !b) (by rw [duties_bar]; exact Finset.mem_univ _) ((amount_bar m ρ (nxt b c) (!b)).trans (by decide)) () O rfl)
    $$ [HO Ht Hs]
  · isplitr; · iapply (inv_at m ρ K (nxt b c) none); iexact HR
    isplitl [HO]; · iexact HO
    isplitl [Ht]; · iexact Ht
    isplitl [Hs]
    · rw [payload_bar]; unfold barPay
      rw [show nxt (!b) (nxt b c) = c from src_nxt b c]
      iexact Hs
    iapply (reached_at m ρ K (nxt b c) none); iexact HR
  iexact Hk

theorem wp_handshake (c : Dev nD) (W : Waits sig Unit) (k : P F) (Q : PUnit → sProp 𝕄) :
    iprop(records m ρ K ∗ (atPos ER (cell c none) 0 ∅ 0 ∗ dutyTok ER (cell (nxt false c) none) 0 true ∗ dutyTok ER (cell (nxt true c) none) 0 false)
        ∗ cred (tallyAt (cell c none) () 2) ∗ owes (c : Thread nD τ) (O₀ c) W
        ∗ (bigSep Finset.univ fun i : Hop => slotAny c i.2.2 i.2.1 i.1.succ)
        ∗ (semVal (cell c none) 0 ∗ debt c copies ∗ (bigSep Finset.univ fun i : Hop => slotAny (nxt i.2.2 c) i.2.2 i.2.1 i.1.succ) -∗ runs c k Q))
      ⊢ runs c (handshake c k) Q := by
  rw [by_direction, by_direction]
  unfold handshake debt
  iintro ⟨#HR, ⟨Hat, Ht, Ht'⟩, Hc, HO, ⟨Hs, Hs'⟩, Hk⟩
  iapply (wp_tell m ρ K (tgt false c) c false (tgt_eq false c) (O₁ c) W)
  isplitr; · iexact HR
  isplitl [Ht]; · iexact Ht
  isplitl [Hs]; · iexact Hs
  isplitl [HO]; · iexact HO
  iintro HO
  iapply (wp_tell m ρ K (tgt true c) c true (tgt_eq true c) (owed c copies) W)
  isplitr; · iexact HR
  isplitl [Ht']; · iexact Ht'
  isplitl [Hs']; · iexact Hs'
  isplitl [HO]; · iexact HO
  iintro HO
  iapply (Rounds.wp_wait_rest_token 𝒱₀ ER (rd m ρ) (c : Thread nD τ) none (κ := K (c, none))
      (wpE_semWait_eq 𝒱₀ (c : Thread nD τ) none Set.univ) (Set.mem_univ _) () (O := owed c copies) (W := W) (R := 0) (m := 0) (T := ∅)
      (by rw [expect_bar])) $$ [Hc HO Hat]
  · isplitr; · iapply (inv_at m ρ K c none); iexact HR
    isplitl [Hc]; · iexact Hc
    isplitl [HO]; · iexact HO
    isplitr
    · iapply (mayWait c (.reg barS) 1 (le_of_eq (lv_bar c)) copies fun i _ => Nat.lt_add_left _ (Nat.lt_succ_self 1))
      iapply (levels_at m ρ K); iexact HR
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (cell c none))) $$ [Hat] with Hz
  · isplitr; · iapply (inv_at m ρ K c none); iexact HR
    iexact Hat
  iapply Hk
  isplitl [Hz]; · iexact Hz
  isplitl [HO]; · iexists _; iexact HO
  unfold barPay; iexact Hp

/-! ## The whole body -/

theorem hops_sorted : hops.Pairwise fun a b => a.1 ≤ b.1 := by decide
theorem chains_nodup : chains.Nodup := by decide
theorem copies_eq : copies = chains.map (fun q => (0, q)) ++ hops.map fun i => (i.1.succ, i.2) := by decide

theorem later {i : Fin 6 × Fin 2 × Bool} {l : List (Fin 6 × Fin 2 × Bool)} (h : (i :: l) <:+ hops) :
    ∀ i' ∈ l.map (fun i => ((i.1.succ, i.2) : Hop)), i.1.val < i'.1.val := by
  intro i' hi
  obtain ⟨j, hj, rfl⟩ := List.mem_map.mp hi
  have := (List.pairwise_cons.mp (hops_sorted.sublist h.sublist)).1 j hj
  exact Nat.lt_succ_of_le this

theorem wp_body (c : Dev nD) (W : Waits sig Unit) (f₀ : Buf (Elt F) ((c : Thread nD τ).loc cc0_stg2_0)) (Q : PUnit → sProp 𝕄) :
    iprop(records m ρ K ∗ linear c ∗ credits c ∗ slots c ∗ owes (c : Thread nD τ) (O₀ c) W ∗ xw m ρ c ∗ ((c : Thread nD τ).loc cc0_stg2_0 ↦{fullShare} f₀)
        ∗ (slots c ∗ closed c ∗ debt c [] ∗ xw m ρ c ∗ outOf m ρ c [] -∗ Q ⟨⟩))
      ⊢ runs c (body c) Q := by
  unfold linear credits closed slots
  iintro ⟨#HR, ⟨Hbar, ⟨HatR, HatS⟩, HtS, HtR⟩, ⟨HcB, HcR⟩, Hslots, HO, Hxw, Hout, Hk⟩
  unfold body
  ihave Hslots := (Entails.of_eq (list_written (F := F) fun i => slotAny c i.2.2 i.2.1 i.1)) $$ Hslots
  icases Hslots with ⟨Hs0, Hs⟩
  iapply (wp_handshake m ρ K c W)
  isplitr; · iexact HR
  isplitl [Hbar]; · iexact Hbar
  isplitl [HcB]; · iexact HcB
  isplitl [HO]; · iexact HO
  isplitl [Hs]; · iexact Hs
  iintro ⟨HzB, HO, Hdst⟩
  -- what the copies and the arrivals need
  ihave Hcp : iprop(bigSep Finset.univ (copyPre (F := F) c)) $$ [HtS HtR Hdst]
  · unfold copyPre
    rw [bigSep_sep', bigSep_sep']
    isplitl [HtS]; · iexact HtS
    isplitl [HtR] <;> iassumption
  ihave Hr : iprop(bigSep Finset.univ (recvPre (F := F) c)) $$ [HatR HcR]
  · unfold recvPre
    rw [bigSep_sep']
    isplitl [HatR] <;> iassumption
  ihave Hcp := (Entails.of_eq (list_sends (copyPre (F := F) c))) $$ Hcp
  ihave Hr := (Entails.of_eq (list_arrivals (recvPre (F := F) c))) $$ Hr
  icases Hcp with ⟨Hcp0, Hcp⟩
  icases Hr with ⟨Hr, Hr6⟩
  rw [copies_eq]
  -- the starts
  iapply (wp_each m ρ K c (start c) (startPre c) (fun q => sendCred c (0, q))
    (fun l => iprop(xw m ρ c ∗ debt c (l.map (fun q => (0, q)) ++ hops.map fun i => (i.1.succ, i.2)))) chains
    (fun q l _ k Q => by simp only [List.map_cons, List.cons_append]; exact wp_start m ρ K c q _ k Q) _ _ chains (List.suffix_refl _))
  isplitr; · iexact HR
  isplitl [Hs0 Hcp0]
  · unfold startPre; rw [bigSepL_both]
    isplitl [Hs0] <;> iassumption
  isplitl [Hxw HO]; · isplitl [Hxw] <;> iassumption
  rw [List.map_nil, List.nil_append]
  iintro ⟨HcS0, Hxw, HO⟩
  -- the hops
  iapply (wp_each m ρ K c (hop c) (hopPre c) (hopPost c)
    (fun l => iprop(xw m ρ c ∗ debt c (l.map fun i => (i.1.succ, i.2)))) hops
    (fun i l hl k Q => by simp only [List.map_cons]; exact wp_hop m ρ K c i _ (later hl) k Q) _ _ hops (List.suffix_refl _))
  isplitr; · iexact HR
  isplitl [Hr Hcp]
  · unfold hopPre; rw [bigSepL_both]
    isplitl [Hr] <;> iassumption
  isplitl [Hxw HO]; · isplitl [Hxw] <;> iassumption
  unfold hopPost
  rw [bigSepL_both, List.map_nil]
  iintro ⟨⟨HcS, HzR⟩, Hxw, HO⟩
  -- the last arrivals
  iapply (wp_each m ρ K c (finish c) (fun q => recvPre c (6, q)) (finishPost c)
    (fun l => iprop(xw m ρ c ∗ debt c [] ∗ outOf m ρ c l)) chains
    (fun q l hl k Q => wp_finish m ρ K c q l (List.nodup_cons.mp (chains_nodup.sublist hl.sublist)).1 k Q) _ _ chains (List.suffix_refl _))
  isplitr; · iexact HR
  isplitl [Hr6]; · iexact Hr6
  isplitl [Hxw HO Hout]
  · isplitl [Hxw]; · iexact Hxw
    isplitl [HO]; · iexact HO
    unfold outOf
    iexists f₀
    isplitr
    · ipureintro; intro s b h; exact absurd (by revert s b; decide) h
    iexact Hout
  unfold finishPost
  rw [bigSepL_both]
  iintro ⟨⟨Hs7, HzR6⟩, Hxw, HO, Hout⟩
  -- the waits for the copies made
  iapply (wp_each m ρ K c sent (sentPre c) (sentPost c) (fun _ => debt c []) copies
    (fun i l _ k Q => wp_sent m ρ K c i k Q) _ _ copies (List.suffix_refl _))
  isplitr; · iexact HR
  isplitl [HatS HcS0 HcS]
  · unfold sentPre; rw [bigSepL_both, ← list_copies, ← list_copies]
    isplitl [HatS]; · iexact HatS
    rw [list_sends]
    isplitl [HcS0] <;> iassumption
  isplitl [HO]; · iexact HO
  unfold sentPost
  rw [bigSepL_both, ← list_copies, ← list_copies]
  iintro ⟨⟨Hs, HzS⟩, HO⟩
  unfold runs
  rw [wp_ret]
  imodintro
  iapply Hk
  isplitl [Hs Hs7]
  · rw [list_read]
    isplitl [Hs] <;> iassumption
  isplitl [HzB HzR HzR6 HzS]
  · isplitl [HzB]; · iexact HzB
    isplitl [HzR HzR6]
    · rw [list_arrivals]
      isplitl [HzR] <;> iassumption
    iexact HzS
  isplitl [HO]; · iexact HO
  isplitl [Hxw] <;> iassumption

end Cert.KernelIdeal.Ring

end
-- ==== Proof.KernelIdeal.Run.lean ====
/-
# The launch

What the launch deals every device, dealt around the ring; the body's obligation; and the run of the
whole program, which ends with every device's output stripes at the values the protocol names.
-/
module

public import proofs.«01_k».proof.Proof.KernelIdeal.Body
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots and buffers -/

theorem slotR_disjoint : ∀ (p p' : Fin 8 × Fin 2), p ≠ p' → Disjoint (slotR p.2 p.1).set (slotR p'.2 p'.1).set := by
  rintro ⟨k, s⟩ ⟨k', s'⟩ h
  by_cases hs : s = s'
  · exact Rect.unit_disjoint 1 (by
      have hk : k.val ≠ k'.val := fun e => h (Prod.ext (Fin.ext e) hs)
      show k.val + 1 ≤ k'.val ∨ k'.val + 1 ≤ k.val; omega)
  · exact Rect.unit_disjoint 0 (by
      have hk : s.val ≠ s'.val := fun e => hs (Fin.ext e)
      show s.val + 1 ≤ s'.val ∨ s'.val + 1 ≤ s.val; omega)

/-- The elements of a slot, in its communication buffer. -/
abbrev slotSet (b : Bool) (p : Fin 8 × Fin 2) : Finset (comm b).view.ty.Idx := (slotV b p.2 p.1).set

theorem slotV_disjoint (b : Bool) (p p' : Fin 8 × Fin 2) (h : p ≠ p') : Disjoint (slotSet b p) (slotSet b p') :=
  View.disjoint_slice (slotR_disjoint p p' h)

theorem slotR_cover (i : S2x8x256x512.Idx) : ∃ p : Fin 8 × Fin 2, i ∈ (slotR p.2 p.1).set :=
  ⟨(i 1, i 0), Rect.mem_set_unit.mpr fun a => by
    have := (i a).isLt
    match a with
    | 0 => exact ⟨le_refl _, Nat.lt_succ_self _⟩
    | 1 => exact ⟨le_refl _, Nat.lt_succ_self _⟩
    | 2 => exact ⟨Nat.zero_le _, by simpa using this⟩
    | 3 => exact ⟨Nat.zero_le _, by simpa using this⟩⟩

theorem mem_slotSet : ∀ (b : Bool) (i : (comm b).view.ty.Idx), ∃ p, i ∈ slotSet b p
  | true, i => (slotR_cover i).imp fun p hp => (Finset.ext_iff.mp (View.set_slice_whole cc0_scratch0 (slotR p.2 p.1)) i).mpr hp
  | false, i => (slotR_cover i).imp fun p hp => (Finset.ext_iff.mp (View.set_slice_whole cc0_scratch1 (slotR p.2 p.1)) i).mpr hp

theorem slotV_cover (b : Bool) : Finset.univ.biUnion (slotSet b) = Finset.univ :=
  Finset.eq_univ_iff_forall.mpr fun i => by
    obtain ⟨p, hp⟩ := mem_slotSet b i
    exact Finset.mem_biUnion.mpr ⟨p, Finset.mem_univ p, hp⟩

omit [FloatOps F] in
theorem slot_intro (c : Dev nD) (b : Bool) (p : Fin 8 × Fin 2) (f : Buf (Elt F) ((comm b).view.loc (c : Thread nD τ))) :
    ((comm b).view.loc (c : Thread nD τ) ↦[slotSet b p]{fullShare} f : sProp 𝕄) ⊢ slotAny (F := F) c b p.2 p.1 := by
  unfold slotAny slotPts
  iintro H; iexists f; iexact H

omit [FloatOps F] in
theorem slot_elim (c : Dev nD) (b : Bool) (p : Fin 8 × Fin 2) :
    (slotAny (F := F) c b p.2 p.1 : sProp 𝕄) ⊢ iprop(∃ f : Buf (Elt F) ((comm b).view.loc (c : Thread nD τ)), (comm b).view.loc (c : Thread nD τ) ↦[slotSet b p]{fullShare} f) := by
  unfold slotAny slotPts
  iintro ⟨%f, H⟩; iexists f; iexact H

omit [FloatOps F] in
/-- A communication buffer is its slots; -/
theorem slots_split (c : Dev nD) (b : Bool) :
    (iprop(∃ f : Buf (Elt F) ((comm b).view.loc (c : Thread nD τ)), ((comm b).view.loc (c : Thread nD τ)) ↦{fullShare} f) : sProp 𝕄)
      ⊢ bigSep Finset.univ fun p : Fin 8 × Fin 2 => slotAny (F := F) c b p.2 p.1 := by
  have h (f : Buf (Elt F) ((comm b).view.loc (c : Thread nD τ))) : ((comm b).view.loc (c : Thread nD τ) ↦{fullShare} f : sProp 𝕄)
      ⊢ bigSep Finset.univ fun p : Fin 8 × Fin 2 => slotAny (F := F) c b p.2 p.1 := by
    rw [Idealize.ShloMosaic.Ring.pointsTo_blocks (slotSet b) (slotV_disjoint b) (slotV_cover b) f]
    exact bigSep_mono fun p _ => slot_intro c b p f
  iintro ⟨%f, H⟩
  iapply (h f); iexact H

omit [FloatOps F] in
/-- and the slots make up the buffer. -/
theorem slots_join (c : Dev nD) (b : Bool) (f₀ : Buf (Elt F) ((comm b).view.loc (c : Thread nD τ))) :
    (bigSep Finset.univ fun p : Fin 8 × Fin 2 => slotAny (F := F) c b p.2 p.1)
      ⊢ (iprop(∃ f : Buf (Elt F) ((comm b).view.loc (c : Thread nD τ)), ((comm b).view.loc (c : Thread nD τ)) ↦{fullShare} f) : sProp 𝕄) :=
  (bigSep_mono fun p _ => slot_elim c b p).trans <|
    Idealize.ShloMosaic.Ring.pointsTo_blocks_join_exists (ℓ := (comm b).view.loc (c : Thread nD τ)) (slotSet b) (slotV_disjoint b) (slotV_cover b) f₀

/-! ## The output -/

theorem colR_cover (i : S256x2048.Idx) : ∃ (b : Bool) (s : Fin 2), i ∈ (colR b s).set := by
  have h0 : (i 0).val < 256 := (i 0).isLt
  have h1 : (i 1).val < 2048 := (i 1).isLt
  have key (b : Bool) (s : Fin 2) (h : colOf b s ≤ (i 1).val ∧ (i 1).val < colOf b s + 512) : ∃ (b : Bool) (s : Fin 2), i ∈ (colR b s).set :=
    ⟨b, s, Rect.mem_set_unit.mpr fun a => by
      match a with
      | 0 => exact ⟨Nat.zero_le _, by simpa using h0⟩
      | 1 => exact h⟩
  by_cases h2 : (i 1).val < 512
  · exact key true 0 ⟨Nat.zero_le _, h2⟩
  by_cases h3 : (i 1).val < 1024
  · exact key true 1 ⟨by show 512 ≤ _; omega, h3⟩
  by_cases h4 : (i 1).val < 1536
  · exact key false 0 ⟨by show 1024 ≤ _; omega, h4⟩
  exact key false 1 ⟨by show 1536 ≤ _; omega, h1⟩

/-- A stripe of an output array. -/
abbrev stripe (b : Bool) (s : Fin 2) (f : (cc0_stg2_0 : Ref sig .tc).ty.Contents (Elt F)) : Vec F S256x512 .f32 :=
  ((oM : Memref sig .tc .vmem S256x2048 .f32).access (colR b s)).read (Elt F) f

theorem stripe_apply (b : Bool) (s : Fin 2) (f : (cc0_stg2_0 : Ref sig .tc).ty.Contents (Elt F)) (y : S256x512.Idx) :
    stripe b s f y = f ((colR b s).emb y) := rfl

/-- An output array is determined by its stripes. -/
theorem stripes_ext (f g : (cc0_stg2_0 : Ref sig .tc).ty.Contents (Elt F)) (h : ∀ b s, stripe b s f = stripe b s g) : f = g := by
  funext i
  obtain ⟨b, s, hi⟩ := colR_cover i
  obtain ⟨y, rfl⟩ := (colR b s).exists_idx_of_mem hi
  exact congrFun (h b s) y

/-- The output of device `c`: every stripe written. -/
def outAt (c : Dev nD) : (cc0_stg2_0 : Ref sig .tc).ty.Contents (Elt F) :=
  chains.foldr (fun (q : Fin 2 × Bool) (f : (cc0_stg2_0 : Ref sig .tc).ty.Contents (Elt F)) => ((oM : Memref sig .tc .vmem S256x2048 .f32).access (colR q.2 q.1)).write (Elt F) f (outv m ρ c q.2 q.1) Finset.univ)
    ((win0_2.blk (0 : Fin 1)).view.read (Elt F) ((s₀ m ρ).mem ((c : Thread nD τ).loc main_v1)))

theorem stripe_outAt (c : Dev nD) (b : Bool) (s : Fin 2) : stripe b s (outAt m ρ c) = outv m ρ c b s := by
  have h : (s, b) ∈ chains := by revert s b; decide
  unfold outAt
  generalize chains = l at h
  induction l with
  | nil => exact absurd h List.not_mem_nil
  | cons q l ih =>
    rw [List.foldr_cons]
    by_cases e : (s, b) = q
    · subst e
      exact View.read_write_univ (v := (oM : Memref sig .tc .vmem S256x2048 .f32).access (colR b s)) _ _
    · refine (View.read_slice_write_slice_of_disjoint (v := (oM : Memref sig .tc .vmem S256x2048 .f32).view) (colR b s) (colR q.2 q.1) _ _ _ ?_).trans
        (ih ((List.mem_cons.mp h).resolve_left e))
      exact View.disjoint_slice (colR_disjoint b s q.2 q.1 e)

/-! ## The pipeline's data -/

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the launch's global step leaves device `c`: the records under some names, and its own part. -/
def ghost (c : Dev nD) : sProp 𝕄 :=
  iprop(∃ K : Dev nD × Cell → ℕ, ((bigSep Finset.univ fun ck : Dev nD × Cell => cellInv ER (rd m ρ) (K ck) (cell ck.1 ck.2))
    ∗ (bigSep Finset.univ fun ck : Dev nD × Cell => reached ER (cell ck.1 ck.2) 0)) ∗ linear c)

/-- What its body starts from, besides its buffers. -/
def start₀ (c : Dev nD) : sProp 𝕄 := iprop(ghost m ρ c ∗ credits c ∗ levAts L lv)

def Φ₀ (c : Dev nD) : sProp 𝕄 := iprop(start₀ m ρ c ∗ slots c)
def Φ₁ (c : Dev nD) : sProp 𝕄 := iprop(slots (F := F) c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_in (w : Fin 3) (hw : w ≠ 2) (t : Fin cfg0.N) : (cfg0.win w).fetch t = true := by rw [fin_N t]; revert w; decide

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

theorem sound_body (c : Dev nD) :
    bodyPre m ρ c ⊢ runs c (body c) fun _ => bodyPost m ρ c := by
  unfold bodyPre Φ₀ start₀ ghost
  iintro ⟨⟨⟨⟨%K, ⟨#HI, #HB⟩, Hlin⟩, Hcr, #Hlev⟩, Hslots⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_in 0 (by decide) t₀)]; rfl
  have hw : g1 = wstg m ρ c := by rw [hg1]; unfold Dat.before; rw [if_pos (fetch_in 1 (by decide) t₀)]; rfl
  subst hx hw
  unfold Dat.owesAt Pipeline.owesWithin
  icases Ho with ⟨%W, %hW, HO⟩
  rw [show (dats m ρ 0 c).owed t₀.castSucc = O₀ c from rfl]
  iapply (wp_body m ρ K c W g2)
  isplitr
  · unfold records
    isplitl; · iexact HI
    isplitl; · iexact HB
    iexact Hlev
  isplitl [Hlin]; · iexact Hlin
  isplitl [Hcr]; · iexact Hcr
  isplitl [Hslots]; · iexact Hslots
  isplitl [HO]; · iexact HO
  isplitl [Hx Hw]; · unfold xw; isplitl [Hx] <;> iassumption
  isplitl [Hout]; · iexact Hout
  unfold debt xw outOf bodyPost Φ₁ Dat.owesAt Pipeline.owesWithin
  iintro ⟨Hslots, Hz, ⟨%W', HO⟩, ⟨Hx, Hw⟩, ⟨%f, %hf, Hout⟩⟩
  have hf' : f = outAt m ρ c := stripes_ext f (outAt m ρ c) fun b s => (hf s b List.not_mem_nil).trans (stripe_outAt m ρ c b s).symm
  subst hf'
  isplitl [Hslots Hz]; · isplitl [Hslots] <;> iassumption
  isplitl [HO]
  · iexists W'
    isplitr; · ipureintro; exact fun _ _ => Or.inl trivial
    iexact HO
  isplitl [Hx]
  · iexists _; isplitr; · ipureintro; rfl
    iexact Hx
  isplitl [Hw]
  · iexists _; isplitr; · ipureintro; rfl
    iexact Hw
  iexists _; isplitr; · ipureintro; rfl
  iexact Hout

set_option maxRecDepth 65536 in
/-- The pipeline's obligation for the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ runs c
    (cc0_body xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  unfold runs
  simp only [wp_deviceId]
  exact sound_body m ρ c

/-! ## The launch -/

theorem ownSemFacts : Pipeline.OwnSemFacts cfg0.spec xsem where
  isScoped := by decide +kernel
  inj := xsem_injective
  disj := by decide +kernel

theorem share_eq (c : Dev nD) (w : Fin cfg0.W) : (dats m ρ 0 c).share w = fullShare := by unfold Dat.share; split <;> rfl

theorem cell_injective : Function.Injective fun ck : Dev nD × Cell => cell ck.1 ck.2 := by
  rintro ⟨c, k⟩ ⟨c', k'⟩ h
  obtain ⟨h1, h2⟩ := Prod.mk.inj h
  exact Prod.ext (congrArg (fun t : Thread nD τ => t.1) h1) (csem_injective h2)

def ringCells : Finset (GSem nD τ sig) := Finset.univ.map ⟨fun ck : Dev nD × Cell => cell ck.1 ck.2, cell_injective⟩

/-- The duties: `false` on every cell, and `true` on the barriers. -/
abbrev tokOf (cj : Dev nD × Option Cell) : GSem nD τ sig × ℕ × Bool :=
  match cj.2 with
  | none => (cell cj.1 none, 0, true)
  | some k => (cell cj.1 k, 0, false)

theorem tokOf_injective : Function.Injective tokOf := by
  rintro ⟨c, _ | k⟩ ⟨c', _ | k'⟩ h
  · have := cell_injective (a₁ := (c, none)) (a₂ := (c', none)) (congrArg Prod.fst h)
    rw [(Prod.mk.inj this).1]
  · exact absurd (congrArg (fun x => x.2.2) h) (fun e => by cases e)
  · exact absurd (congrArg (fun x => x.2.2) h) (fun e => by cases e)
  · have := cell_injective (a₁ := (c, k)) (a₂ := (c', k')) (congrArg Prod.fst h)
    rw [(Prod.mk.inj this).1, (Prod.mk.inj this).2]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

omit [FloatOps F] in
theorem bigSep_option {α : Type} [Fintype α] [DecidableEq α] (Φ : Option α → sProp 𝕄) :
    bigSep Finset.univ Φ = iprop(Φ none ∗ bigSep Finset.univ fun a => Φ (some a)) := by
  rw [bigSep_univ_at Φ none, show (Finset.univ : Finset (Option α)).erase none = Finset.univ.map Function.Embedding.some from ?_, bigSep_map]
  · rfl
  · ext x; cases x <;> simp

omit [FloatOps F] in
/-- A family over a device's cells: the barrier, the receivers' cells, the senders' cells. -/
theorem bigSep_cell (Φ : Cell → sProp 𝕄) :
    bigSep Finset.univ Φ = iprop(Φ none ∗ (bigSep Finset.univ fun i : Hop => Φ (some (true, i))) ∗ bigSep Finset.univ fun i : Hop => Φ (some (false, i))) := by
  rw [bigSep_option, bigSep_univ_prod, bigSep_univ_eq_bigSepL [true, false] (by decide) (by decide), bigSepL_cons_cons, bigSepL_singleton]
  rfl

/-- The duties of device `c`'s own cells. -/
def toks (c : Dev nD) : sProp 𝕄 :=
  iprop(dutyTok ER (cell c none) 0 true ∗ dutyTok ER (cell c none) 0 false
    ∗ (bigSep Finset.univ fun i : Hop => dutyTok ER (cell c (some (true, i))) 0 false)
    ∗ bigSep Finset.univ fun i : Hop => dutyTok ER (cell c (some (false, i))) 0 false)

/-- What the launch deals device `c`. -/
def G (c : Dev nD) : sProp 𝕄 :=
  iprop((bigSep Finset.univ fun k : Cell => roundState ER (rd m ρ) (cell c k) 0)
    ∗ (bigSep Finset.univ fun k : Cell => iprop(atPos ER (cell c k) 0 ∅ 0 ∗ reached ER (cell c k) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_option, bigSep_cell]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The semaphores of the copies are the kernel's own, -/
theorem ownSems0_eq (c : Dev nD) : (Pipeline.ownSems0 (Ix := Unit) (Name := ℕ) (U := UU) (Lvl := ℕ) (Val := Elt F) (τ := τ) xsem c : sProp 𝕄)
    = iprop((bigSep Finset.univ fun i : Hop => semVal (cell c (some (true, i))) 0) ∗ bigSep Finset.univ fun i : Hop => semVal (cell c (some (false, i))) 0) := by
  unfold Pipeline.ownSems0
  rw [bigSep_univ_prod, bigSep_univ_eq_bigSepL [true, false] (by decide) (by decide), bigSepL_cons_cons, bigSepL_singleton]
  rfl
omit [FloatOps F] in
/-- and the barrier semaphore is the one that outlives it. -/
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

omit [FloatOps F] in
theorem closed_eq (c : Dev nD) :
    (iprop(unscopedSems0 c ∗ Pipeline.ownSems0 (Ix := Unit) (Name := ℕ) (U := UU) (Lvl := ℕ) (Val := Elt F) (τ := τ) xsem c) : sProp 𝕄) = closed c := by
  rw [ownSems0_eq, unscopedSems0_eq]; rfl

theorem core_alloc (c : Dev nD) :
    iprop(Pipeline.ownSems0 (Ix := Unit) (Name := ℕ) (U := UU) (Lvl := ℕ) (Val := Elt F) (τ := τ) xsem c ∗ unscopedSems0 c ∗ G m ρ c)
      ⊢ |={Set.univ}=> iprop((bigSep Finset.univ fun k : Cell => iprop(∃ κ : ℕ, cellInv ER (rd m ρ) κ (cell c k)))
          ∗ (bigSep Finset.univ fun k : Cell => iprop(atPos ER (cell c k) 0 ∅ 0 ∗ reached ER (cell c k) 0)) ∗ toks c) := by
  have alloc : iprop((bigSep Finset.univ fun k : Cell => semVal (cell c k) 0) ∗ bigSep Finset.univ fun k : Cell => roundState ER (rd m ρ) (cell c k) 0)
      ⊢ (|={Set.univ}=> bigSep Finset.univ fun k : Cell => iprop(∃ κ : ℕ, cellInv ER (rd m ρ) κ (cell c k)) : sProp 𝕄) := by
    rw [← bigSep_sep']
    exact (bigSep_mono fun k _ => (Rounds.body_intro ER (rd m ρ) (cell c k)).trans inv_alloc).trans (bigSep_fupd _ _)
  have sems : iprop(Pipeline.ownSems0 (Ix := Unit) (Name := ℕ) (U := UU) (Lvl := ℕ) (Val := Elt F) (τ := τ) xsem c ∗ unscopedSems0 c)
      ⊢ (bigSep Finset.univ fun k : Cell => semVal (cell c k) 0 : sProp 𝕄) := by
    rw [bigSep_cell, ownSems0_eq, unscopedSems0_eq]
    iintro ⟨H, HB⟩
    isplitl [HB] <;> iassumption
  unfold G
  iintro ⟨Hos, Hus, Hst, Hat, Htok⟩
  imod alloc $$ [Hos Hus Hst] with Hinv
  · isplitl [Hos Hus]
    · iapply sems
      isplitl [Hos] <;> iassumption
    iexact Hst
  imodintro
  isplitl [Hinv]; · iexact Hinv
  isplitl [Hat] <;> iassumption

/-! ### Around the ring -/

/-- The step to the neighbour of a direction. -/
def around (b : Bool) : Dev nD ≃ Dev nD := ⟨nxt b, src b, src_nxt b, nxt_src b⟩

/-- The duties device `c` performs, its own cells' and its neighbours'. -/
def payToks (c : Dev nD) : sProp 𝕄 :=
  iprop((dutyTok ER (cell (nxt false c) none) 0 true ∗ dutyTok ER (cell (nxt true c) none) 0 false)
    ∗ (bigSep Finset.univ fun i : Hop => dutyTok ER (cell c (some (false, i))) 0 false)
    ∗ (bigSep Finset.univ fun i : Hop => dutyTok ER (cell (nxt i.2.2 c) (some (true, i))) 0 false))

omit [FloatOps F] in
theorem toks_around : (bigSep Finset.univ fun c : Dev nD => (toks c : sProp 𝕄)) ⊢ bigSep Finset.univ fun c : Dev nD => payToks c := by
  have hR : (bigSep Finset.univ fun c : Dev nD => bigSep Finset.univ fun i : Hop => (dutyTok ER (cell c (some (true, i))) 0 false : sProp 𝕄))
      = bigSep Finset.univ fun c : Dev nD => bigSep Finset.univ fun i : Hop => dutyTok ER (cell (nxt i.2.2 c) (some (true, i))) 0 false := by
    rw [bigSep_univ_comm, bigSep_univ_comm (Φ := fun (c : Dev nD) (i : Hop) => (dutyTok ER (cell (nxt i.2.2 c) (some (true, i))) 0 false : sProp 𝕄))]
    exact bigSep_congr fun i _ => bigSep_univ_equiv (around i.2.2) fun c : Dev nD => (dutyTok ER (cell c (some (true, i))) 0 false : sProp 𝕄)
  unfold toks payToks
  simp only [bigSep_sep']
  rw [hR, bigSep_univ_equiv (around false) (fun c : Dev nD => (dutyTok ER (cell c none) 0 true : sProp 𝕄)),
    bigSep_univ_equiv (around true) (fun c : Dev nD => (dutyTok ER (cell c none) 0 false : sProp 𝕄))]
  iintro ⟨H1, H2, H3, H4⟩
  isplitl [H1 H2]
  · isplitl [H1]; · iexact H1
    iexact H2
  isplitl [H4]; · iexact H4
  iexact H3

theorem regroup :
    (bigSep Finset.univ fun c : Dev nD => iprop((bigSep Finset.univ fun k : Cell => iprop(∃ κ : ℕ, cellInv ER (rd m ρ) κ (cell c k)))
          ∗ (bigSep Finset.univ fun k : Cell => iprop(atPos ER (cell c k) 0 ∅ 0 ∗ reached ER (cell c k) 0)) ∗ toks c) : sProp 𝕄)
      ⊢ bigSep Finset.univ (ghost m ρ) := by
  simp only [bigSep_sep']
  rw [← bigSep_univ_prod (fun ck : Dev nD × Cell => iprop(∃ κ : ℕ, cellInv ER (rd m ρ) κ (cell ck.1 ck.2))),
    ← bigSep_univ_prod (fun ck : Dev nD × Cell => (reached ER (cell ck.1 ck.2) 0 : sProp 𝕄))]
  iintro ⟨HI, ⟨Hat, #HR⟩, Htok⟩
  ihave HK := (BI.bigSep_exists_pi Finset.univ (fun (ck : Dev nD × Cell) (κ : ℕ) => (cellInv ER (rd m ρ) κ (cell ck.1 ck.2) : sProp 𝕄))) $$ HI
  icases HK with ⟨%K, #HI⟩
  ihave Htk := (toks_around (F := F)) $$ Htok
  iapply (bigSep_with_persistent (R := iprop((bigSep Finset.univ fun ck : Dev nD × Cell => cellInv ER (rd m ρ) (K ck) (cell ck.1 ck.2))
      ∗ bigSep Finset.univ fun ck : Dev nD × Cell => (reached ER (cell ck.1 ck.2) 0 : sProp 𝕄)))
    (Φ := fun c => iprop((bigSep Finset.univ fun k : Cell => (atPos ER (cell c k) 0 ∅ 0 : sProp 𝕄)) ∗ payToks c)) fun c _ => by
      unfold ghost linear payToks
      rw [bigSep_cell]
      iintro ⟨#HR, ⟨HaB, HaR, HaS⟩, ⟨Ht, Ht'⟩, HtS, HtR⟩
      iexists K
      isplitr; · iexact HR
      isplitl [HaB Ht Ht']
      · isplitl [HaB]; · iexact HaB
        isplitl [Ht] <;> iassumption
      isplitl [HaR HaS]
      · isplitl [HaR] <;> iassumption
      isplitl [HtS] <;> iassumption)
  isplitr
  · isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) xsem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The launch credit -/

theorem cell_eq_iff {c c' : Dev nD} {k k' : Cell} : cell c k = cell c' k' ↔ c = c' ∧ k = k' :=
  ⟨fun h => Prod.mk.inj (cell_injective (a₁ := (c, k)) (a₂ := (c', k')) h), fun ⟨h, h'⟩ => by rw [h, h']⟩

theorem eq_nxt_iff {b : Bool} {c d : Dev nD} : c = nxt b d ↔ d = src b c :=
  ⟨fun h => by rw [h, src_nxt], fun h => by rw [h, nxt_src]⟩

theorem at_nxt_iff {b : Bool} {c d : Dev nD} {k : Cell} : cell c k = cell (nxt b d) k ↔ d = src b c :=
  cell_eq_iff.trans ((and_iff_left rfl).trans eq_nxt_iff)

theorem owed_copies (d : Dev nD) : owed d copies = ∑ i : Hop, due d i := by
  have h : (Finset.univ : Finset Hop) = copies.toFinset := by decide +kernel
  rw [h, List.sum_toFinset _ (by decide +kernel)]; rfl

theorem O₀_apply (d : Dev nD) (g : GSem nD τ sig) :
    O₀ d g () = (∑ i : Hop, due d i g ()) + (if g = cell (nxt true d) none then 1 else 0) + (if g = cell (nxt false d) none then 1 else 0) := by
  unfold O₀ O₁
  rw [owed_copies]
  generalize (Finset.univ : Finset Hop) = S
  rw [Pi.add_apply, Finsupp.add_apply, Pi.add_apply, Finsupp.add_apply, tallyAt_apply, tallyAt_apply, Finset.sum_apply, Finsupp.finset_sum_apply]
  simp only [and_true]

/-- Both neighbours owe a unit to a barrier. -/
theorem owed_bar (d c : Dev nD) : O₀ d (cell c none) () = (if d = src true c then 1 else 0) + (if d = src false c then 1 else 0) := by
  rw [O₀_apply, Finset.sum_eq_zero fun i _ => ?_, Nat.zero_add]
  · rw [if_congr at_nxt_iff rfl rfl, if_congr at_nxt_iff rfl rfl]
  · unfold due
    rw [tallyAt_apply, if_neg fun h => by cases (cell_eq_iff.mp h.1).2]

/-- The sender owes a copy's credit. -/
theorem owed_recv (d c : Dev nD) (i : Hop) : O₀ d (cell c (some (true, i))) () = if d = src i.2.2 c then N else 0 := by
  rw [O₀_apply, if_neg fun h => (by cases (cell_eq_iff.mp h).2), if_neg fun h => (by cases (cell_eq_iff.mp h).2),
    Finset.sum_eq_single i (fun j _ hj => ?_) (fun h => absurd (Finset.mem_univ i) h)]
  · unfold due
    rw [tallyAt_apply]
    exact if_congr ((and_iff_left rfl).trans at_nxt_iff) rfl rfl
  · unfold due
    rw [tallyAt_apply, if_neg fun h => hj (by have := (cell_eq_iff.mp h.1).2; cases this; rfl)]

theorem launch_bar (c : Dev nD) :
    tallyOn (cell c none) (launchCredit (Pipeline.owing O₀) 0 (cell c none)) = (tallyAt (cell c none) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (src true c) fun _ => 1, Finset.sum_ite_eq' Finset.univ (src false c) fun _ => 1, if_pos (Finset.mem_univ _), if_pos (Finset.mem_univ _)]

theorem launch_recv (c : Dev nD) (i : Hop) :
    tallyOn (cell c (some (true, i))) (launchCredit (Pipeline.owing O₀) 0 (cell c (some (true, i))))
      = (tallyAt (cell c (some (true, i))) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (src i.2.2 c) fun _ => N,
    if_pos (Finset.mem_univ _)]

omit [FloatOps F] in
theorem creds (c : Dev nD) : (Pipeline.launchCred O₀ c : sProp 𝕄) ⊢ credits c := by
  have sub : (Finset.univ.map ⟨fun i : Hop => xsem (true, i), fun i j h => (Prod.mk.inj (xsem_injective h)).2⟩ : Finset (SemLoc sig))
      ⊆ Finset.univ.erase (.reg barS) := by
    intro k hk
    obtain ⟨i, -, rfl⟩ := Finset.mem_map.mp hk
    exact Finset.mem_erase.mpr ⟨xsem_ne_bar _, Finset.mem_univ _⟩
  unfold Pipeline.launchCred credits
  rw [bigSep_univ_at _ (SemLoc.reg barS), launch_bar]
  refine sep_mono_right ((bigSep_subset sub).trans ?_)
  rw [bigSep_map]
  exact Entails.of_eq (bigSep_congr fun i _ => congrArg cred (launch_recv c i))

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start₀ m ρ c ∗ emp) := by
  iintro ⟨-, Hlev, Hcr, -, HG⟩
  ihave Hc := (creds (F := F) c) $$ Hcr
  imodintro
  unfold start₀
  isplitl
  · isplitl [HG]; · iexact HG
    isplitl [Hc] <;> iassumption
  · iempintro

theorem phi0_intro (c : Dev nD) :
    iprop(start₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ slots
  rw [by_direction]
  iintro ⟨Hs, -, Ht, Hf⟩
  isplitl [Hs]; · iexact Hs
  isplitl [Ht]
  · iapply (slots_split (F := F) c true); iexact Ht
  iapply (slots_split (F := F) c false); iexact Hf

theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ c from rfl, scopedRest0_eq]
  unfold Φ₁ slots
  rw [by_direction, ← closed_eq]
  iintro ⟨⟨Ht, Hf⟩, HzB, Hz⟩
  isplitl [HzB]; · iexact HzB
  isplitl [Hz]; · iexact Hz
  isplitl [Ht]
  · iapply (slots_join (F := F) c true (m ((c : Thread nD τ).loc cc0_scratch0))); iexact Ht
  iapply (slots_join (F := F) c false (m ((c : Thread nD τ).loc cc0_scratch1))); iexact Hf

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun i => ownSemFacts.disj (true, i) w s) _ (by
      rcases t with ⟨_ | _, ht⟩
      · exact Or.inl rfl
      · exact Or.inr rfl)

/-! ### The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every weakly fair execution of the eight devices terminates;
at the end every array is at the computed contents and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are unchanged. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ring

end
-- ==== Proof.KernelIdeal.Value.lean ====
/-
# The value, over the extended reals

The eight terms a sum collects on its way around the ring are the eight parts of one contraction of
length 2048: what a device writes to its output is its block of rows of the whole product, with every
negative entry replaced by zero.
-/
module

public import proofs.«01_k».proof.Proof.KernelIdeal.Run
public import Idealize.ShloMosaic.Lib.MatmulPlain
public import Idealize.ShloMosaic.Lib.Pipeline.Value
public import Idealize.ShloMosaic.Lib.Layout
public import Idealize.ShloMosaic.PureOps.Ideal

@[expose] public section

noncomputable section

namespace Cert.KernelIdeal.Ring

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ) (ρ : Dev nD → PrngReg)

/-! ## Staged blocks are the argument arrays -/

/-- The staged left operand is the device's whole argument. -/
theorem xstg_eq (c : Dev nD) : xstg m ρ c = m ((c : Thread nD τ).loc main_arg0) :=
  Memref.read_access_unit_zero (Elt Ideal) main_arg0 (funext fun a => by fin_cases a <;> decide) (fun a => by fin_cases a <;> decide) _

/-- The staged right operand is the device's whole argument. -/
theorem wstg_eq (c : Dev nD) : wstg m ρ c = m ((c : Thread nD τ).loc main_arg1) :=
  Memref.read_access_unit_zero (Elt Ideal) main_arg1 (funext fun a => by fin_cases a <;> decide) (fun a => by fin_cases a <;> decide) _

/-- After the run the result array is what the body left in its staging buffer. -/
theorem finalA_out (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 (funext fun a => by fin_cases a <;> decide) (fun a => by fin_cases a <;> decide) _).symm.trans h

/-! ## One device's term -/

/-- Row `r` of row block `q`, in the whole matrix's rows. -/
def rowAt (q : Dev nD) (r : Fin 256) : Fin 2048 := ⟨256 * q.val + r.val, by have : q.val < 8 := q.isLt; have := r.isLt; omega⟩

/-- Column `l` of a stripe, in the whole matrix's columns. -/
def colAt (b : Bool) (s : Fin 2) (l : Fin 512) : Fin 2048 :=
  ⟨colOf b s + l.val, by have := s.isLt; have := l.isLt; cases b <;> simp only [colOf, cond] <;> omega⟩

/-- The device's arguments, as arrays of extended reals. -/
def argX (c : Dev nD) : S2048x256.Idx → EReal := m ((c : Thread nD τ).loc main_arg0)
def argW (c : Dev nD) : S256x2048.Idx → EReal := m ((c : Thread nD τ).loc main_arg1)

/-- What device `c` contributes to entry (row, column) of the product: the part of the contraction it holds. -/
def term (c : Dev nD) (row col : Fin 2048) : EReal :=
  ∑ k : Fin 256, argX m c (ix2 row k)
    * argW m c (ix2 k col)

theorem xrows_apply (c : Dev nD) (b : Bool) (j : Fin 8) (r k : Fin 256) :
    xrows m ρ c b j (ix2 r k) = argX m c (ix2 (rowAt (block c b j) r) k) := by
  show xstg m ρ c ((rowR c b j).emb (ix2 r k)) = _
  rw [xstg_eq]
  refine congrArg (argX m c) (funext fun a => Fin.ext ?_)
  match a with
  | ⟨0, _⟩ =>
    exact congrArg₂ (· + ·) (congrFun (rowOff_eq c b j) 0) (Nat.one_mul _)
  | ⟨1, _⟩ =>
    exact (congrArg₂ (· + ·) (congrFun (rowOff_eq c b j) 1) (Nat.one_mul _)).trans (Nat.zero_add _)

theorem wcols_apply (c : Dev nD) (b : Bool) (s : Fin 2) (k : Fin 256) (l : Fin 512) :
    wcols m ρ c b s (ix2 k l) = argW m c (ix2 k (colAt b s l)) := by
  show wstg m ρ c ((colR b s).emb (ix2 k l)) = _
  rw [wstg_eq]
  refine congrArg (argW m c) (funext fun a => Fin.ext ?_)
  match a with
  | ⟨0, _⟩ => exact (Nat.zero_add _).trans (Nat.one_mul _)
  | ⟨1, _⟩ => exact congrArg (colOf b s + ·) (Nat.one_mul _)

/-- A step's product is the device's term, at the step's rows and the stripe's columns. -/
theorem prod_apply (c : Dev nD) (b : Bool) (s : Fin 2) (j : Fin 8) (r : Fin 256) (l : Fin 512) :
    prod (xrows m ρ c b j) (wcols m ρ c b s) (ix2 r l) = term m c (rowAt (block c b j) r) (colAt b s l) := by
  unfold prod
  rw [shapeCast_self, shapeCast_self]
  refine (Ideal.matmul_plain_apply none _ _ _ r l).trans ?_
  rw [show (constant S256x512 .f32 0x00000000#32 : FVec Ideal S256x512 .f32) (ix2 r l) = 0 from Ideal.ofBits_zero_f32, zero_add]
  exact Finset.sum_congr rfl fun k _ => by rw [xrows_apply, wcols_apply]

/-! ## The sum around the ring -/

/-- A received sum plus the device's term, read at an index. -/
theorem plus_apply (x : Vec Ideal S256x256 .bf16) (w : Vec Ideal S256x512 .bf16) (v : Vec Ideal S1x1x256x512 .bf16) (i : S256x512.Idx) :
    plus x w v i = (shapeCast S256x512 v shapeCasts_S1x1x256x512_S256x512 : FVec Ideal S256x512 .bf16) i + prod x w i := rfl

/-- The block a neighbour works for at one step is the block this device works for at the next. -/
theorem block_src : ∀ (b : Bool) (c : Dev nD) (n : Fin 7), block (src b c) b n.castSucc = block c b n.succ := by decide +kernel

/-- At its last step a device works for its own block. -/
theorem block_last : ∀ (b : Bool) (c : Dev nD), block c b 7 = c := by decide +kernel

/-- Going back around the ring from a device meets every device once. -/
theorem src_bijective : ∀ (b : Bool) (c : Dev nD), Function.Bijective fun i : Fin 8 => (src b)^[i.val] c := by decide +kernel

/-- What is sent at hop `n` is the sum of the terms of the devices passed so far, all for the same rows. -/
theorem val_apply (b : Bool) (s : Fin 2) (r : Fin 256) (l : Fin 512) : ∀ (n : ℕ) (hn : n < 8) (c : Dev nD),
    (shapeCast S256x512 (val m ρ b s n c) shapeCasts_S1x1x256x512_S256x512 : FVec Ideal S256x512 .bf16) (ix2 r l)
      = ∑ i ∈ Finset.range (n + 1), term m ((src b)^[i] c) (rowAt (block c b ⟨n, hn⟩) r) (colAt b s l)
  | 0, hn, c => by
    rw [Finset.sum_range_one]
    show (shapeCast S256x512 (first _ _) _ : FVec Ideal S256x512 .bf16) (ix2 r l) = _
    unfold first
    rw [shapeCast_shapeCast]
    exact prod_apply m ρ c b s 0 r l
  | n + 1, hn, c => by
    show (shapeCast S256x512 (next _ _ _) _ : FVec Ideal S256x512 .bf16) (ix2 r l) = _
    unfold next
    rw [shapeCast_shapeCast]
    refine (plus_apply _ _ _ _).trans ?_
    rw [val_apply b s r l n (by omega) (src b c), prod_apply, Finset.sum_range_succ' _ (n + 1)]
    have e : (Fin.ofNat 8 (n + 1)) = ⟨n + 1, hn⟩ := Fin.ext (Nat.mod_eq_of_lt hn)
    have e' : block (src b c) b ⟨n, by omega⟩ = block c b ⟨n + 1, hn⟩ := block_src b c ⟨n, by omega⟩
    rw [e, e']
    rfl

/-- A device's output stripe: the sum of all eight devices' terms for its own rows, and zero where that is negative. -/
theorem outv_apply (c : Dev nD) (b : Bool) (s : Fin 2) (r : Fin 256) (l : Fin 512) :
    outv m ρ c b s (ix2 r l) = max (∑ d : Dev nD, term m d (rowAt c r) (colAt b s l)) 0 := by
  show max (plus _ _ _ (ix2 r l)) (Ideal.ofBits .f32 0x00000000#32) = _
  rw [Ideal.ofBits_zero_f32, plus_apply, val_apply m ρ b s r l 6 (by omega), prod_apply]
  refine congrArg (max · 0) ?_
  have e : block (src b c) b ⟨6, by omega⟩ = block c b 7 := block_src b c 6
  rw [e, block_last, ← (src_bijective b c).sum_comp fun d => term m d (rowAt c r) (colAt b s l)]
  rw [← Fin.sum_univ_eq_sum_range (fun i => term m ((src b)^[i] (src b c)) (rowAt c r) (colAt b s l)) 7]
  exact ((Fin.sum_univ_succ _).trans (add_comm _ _)).symm

/-- Every entry of a device's output. -/
theorem outAt_apply (c : Dev nD) (r : Fin 256) (col : Fin 2048) :
    (outAt m ρ c : S256x2048.Idx → EReal) (ix2 r col) = max (∑ d : Dev nD, term m d (rowAt c r) col) 0 := by
  obtain ⟨b, s, hi⟩ := colR_cover (ix2 r col)
  obtain ⟨y, hy⟩ := (colR b s).exists_idx_of_mem hi
  have hr : y 0 = r := Fin.ext (by
    have := congrArg (fun i : S256x2048.Idx => (i 0).val) hy
    exact ((Nat.zero_add _).trans (Nat.one_mul _)).symm.trans this)
  have hc : colAt b s (y 1) = col := Fin.ext (by
    have := congrArg (fun i : S256x2048.Idx => (i 1).val) hy
    exact (congrArg (colOf b s + ·) (Nat.one_mul _)).symm.trans this)
  have h := congrFun (stripe_outAt m ρ c b s) y
  rw [stripe_apply] at h
  rw [← hy]
  refine h.trans ?_
  rw [show y = ix2 (y 0) (y 1) from eq_ix2 y]
  refine (outv_apply m ρ c b s (y 0) (y 1)).trans ?_
  rw [hc, hr]

/-! ## The whole product -/

/-- Device `d` holds columns `256 d …` of the whole left matrix and the same rows of the right one, so the eight
terms together are the whole contraction. -/
theorem sum_term (x w : FVec Ideal ⟨2, ![2048, 2048]⟩ .bf16)
    (hx : ∀ c : Dev nD, m ((c : Thread nD τ).loc main_arg0) = Layout.block ⟨2, ![2048, 256]⟩ ⟨2, ![2048, 2048]⟩ 1 8 c x)
    (hw : ∀ c : Dev nD, m ((c : Thread nD τ).loc main_arg1) = Layout.block ⟨2, ![256, 2048]⟩ ⟨2, ![2048, 2048]⟩ 0 8 c w)
    (row col : Fin 2048) :
    ∑ d : Dev nD, term m d row col = ∑ k : Fin 2048, x (ix2 row k) * w (ix2 k col) := by
  rw [← (finProdFinEquiv (m := 8) (n := 256)).sum_comp, Fintype.sum_prod_type]
  refine Finset.sum_congr rfl fun d _ => Finset.sum_congr rfl fun k _ => ?_
  unfold argX argW
  rw [hx d, hw d]
  refine congrArg₂ (· * ·) (congrArg x (funext fun a => Fin.ext ?_)) (congrArg w (funext fun a => Fin.ext ?_))
  · match a with
    | ⟨0, _⟩ => rfl
    | ⟨1, _⟩ => show d.val * 256 + k.val = k.val + 256 * d.val; omega
  · match a with
    | ⟨0, _⟩ => show d.val * 256 + k.val = k.val + 256 * d.val; omega
    | ⟨1, _⟩ => rfl

end Cert.KernelIdeal.Ring

end
-- ==== Proof.lean ====
/-
# The proof of the claims

Frames of the two readings of the kernel and of the reference, and the equality of the kernel's result
with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import Idealize.ShloMosaic.Lib.StackMember
public import Idealize.ShloMosaic.Adequacy
public import Idealize.ShloMosaic.Init

@[expose] public section

noncomputable section

namespace Cert.Proof

open Idealize.ShloMosaic Idealize.SL.Sem Idealize.ShloMosaic.ValueIdx
open scoped BigOperators

/-- The kernel runs from any memory, leaves its arguments as they were and every counter at zero. -/
theorem frame_kernel : Cert.quiescent_Kernel (hKernel := Cert.Kernel.Gen.facts) := fun m ρ _ =>
  (θ_run _ _ _).mono (fun _ h => ⟨fun c =>
      ⟨(h.1 c (0 : Fin 3)).trans (Cert.Kernel.Ring.finalA_x m ρ c), (h.1 c (1 : Fin 3)).trans (Cert.Kernel.Ring.finalA_w m ρ c)⟩, h.2⟩)
    (Cert.Kernel.Ring.run_main (F := Bits) m ρ)

/-- The same of the kernel read over the extended reals. -/
theorem frame_ideal : Cert.quiescent_KernelIdeal (hKernelIdeal := Cert.KernelIdeal.Gen.facts) := fun m ρ _ =>
  (θ_run _ _ _).mono (fun _ h => ⟨fun c =>
      ⟨(h.1 c (0 : Fin 3)).trans (Cert.KernelIdeal.Ring.finalA_x m ρ c), (h.1 c (1 : Fin 3)).trans (Cert.KernelIdeal.Ring.finalA_w m ρ c)⟩, h.2⟩)
    (Cert.KernelIdeal.Ring.run_main (F := Ideal) m ρ)

/-- The reference runs from any memory, leaves its arguments as they were, and declares no counter. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- What the reference computes from the whole matrices. -/
def refOut (x w : FVec Ideal ⟨2, ![2048, 2048]⟩ .bf16) : FVec Ideal ⟨2, ![2048, 2048]⟩ .f32 :=
  maximumf (extf .f32 (truncf .bf16 (Host.dotGeneral Cert.ReferenceIdeal.dot_S2048x2048_S2048x2048_S2048x2048_1_0_0_1_n_n none x w)
      Cert.ReferenceIdeal.Facts₀.bitsLt_bf16_f32) Cert.ReferenceIdeal.Facts₀.bitsLt_bf16_f32)
    (broadcastInDim Cert.ReferenceIdeal.S2048x2048 ![] Cert.ReferenceIdeal.Facts₀.bcast_S_S2048x2048 (constant Cert.ReferenceIdeal.S_ .f32 0x00000000#32))

/-- Its entries: the product's, and zero where that is negative. -/
theorem refOut_apply (x w : FVec Ideal ⟨2, ![2048, 2048]⟩ .bf16) (row col : Fin 2048) :
    refOut x w (ix2 row col) = max (∑ k : Fin 2048, x (ix2 row k) * w (ix2 k col)) 0 := by
  show max (Host.dotGeneral (DotDims.plain 2048 2048 2048) none x w (ix2 row col)) (Ideal.ofBits .f32 0x00000000#32) = _
  rw [Ideal.ofBits_zero_f32, StackMember.dotGeneral_plain_apply]

/-- The kernel's result on every device is that device's block of rows of the reference's result. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run _ _ _).mono (fun _ h c => ⟨(h.1 c (2 : Fin 3)).trans ((Cert.KernelIdeal.Ring.finalA_out m ρ c).trans ?_),
        (h.1 c (0 : Fin 3)).trans (Cert.KernelIdeal.Ring.finalA_x m ρ c), (h.1 c (1 : Fin 3)).trans (Cert.KernelIdeal.Ring.finalA_w m ρ c)⟩)
      (Cert.KernelIdeal.Ring.run_main (F := Ideal) m ρ)
    funext i
    obtain ⟨r, col, rfl⟩ : ∃ (r : Fin 256) (col : Fin 2048), i = ix2 r col := ⟨i 0, i 1, eq_ix2 i⟩
    refine (Cert.KernelIdeal.Ring.outAt_apply m ρ c r col).trans ?_
    rw [Cert.KernelIdeal.Ring.sum_term m _ _ (fun c => (hagree c).1) (fun c => (hagree c).2), ← refOut_apply]
    refine congrArg (refOut _ _) (funext fun a => Fin.ext ?_)
    match a with
    | ⟨0, _⟩ => show 256 * c.val + r.val = c.val * 256 + r.val; omega
    | ⟨1, _⟩ => rfl
  · exact (θ_run _ _ _).mono (fun _ h => h 0) (Cert.ReferenceIdeal.Value.run (F := Ideal) m' ρ')

/-- Everything claimed: the three frames, that no operation was replaced, and the value. -/
theorem claim : Cert.Claim := ⟨Cert.Kernel.Gen.facts, Cert.KernelIdeal.Gen.facts, Cert.ReferenceIdeal.Gen.facts,
  frame_kernel, frame_ideal, frame_reference, trivial, algebraic⟩

end Cert.Proof

end
